-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_projection [hPre_finite_projection : Cert.Pre_finite_projection.Facts] (m : (ℓ : Loc Cert.KernelIdeal.nD Cert.KernelIdeal.τ Cert.KernelIdeal.sig) → Buf (Elt Ideal) ℓ) : Prop :=
  ∀ c : Dev Cert.KernelIdeal.nD,
    (Cert.Pre_finite_projection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_projection [hPre_finite_projection : Cert.Pre_finite_projection.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_projection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_QueryProj (m : (ℓ : Loc Cert.QueryProj.nD Cert.QueryProj.τ Cert.QueryProj.sig) → Buf (Elt Bits) ℓ) : Prop :=
  True

def Pre_QueryProjIdeal (m : (ℓ : Loc Cert.QueryProjIdeal.nD Cert.QueryProjIdeal.τ Cert.QueryProjIdeal.sig) → Buf (Elt Ideal) ℓ) : Prop :=
  True

def Pre_QueryProjRefIdeal (m : (ℓ : Loc Cert.QueryProjRefIdeal.nD Cert.QueryProjRefIdeal.τ Cert.QueryProjRefIdeal.sig) → Buf (Elt Ideal) ℓ) : Prop :=
  True

def Pre_PeerProj (m : (ℓ : Loc Cert.PeerProj.nD Cert.PeerProj.τ Cert.PeerProj.sig) → Buf (Elt Bits) ℓ) : Prop :=
  True

def Pre_PeerProjIdeal (m : (ℓ : Loc Cert.PeerProjIdeal.nD Cert.PeerProjIdeal.τ Cert.PeerProjIdeal.sig) → Buf (Elt Ideal) ℓ) : Prop :=
  True

def Pre_PeerProjRefIdeal (m : (ℓ : Loc Cert.PeerProjRefIdeal.nD Cert.PeerProjRefIdeal.τ Cert.PeerProjRefIdeal.sig) → Buf (Elt Ideal) ℓ) : Prop :=
  True

def Pre_SbOutProj (m : (ℓ : Loc Cert.SbOutProj.nD Cert.SbOutProj.τ Cert.SbOutProj.sig) → Buf (Elt Bits) ℓ) : Prop :=
  True

def Pre_SbOutProjIdeal (m : (ℓ : Loc Cert.SbOutProjIdeal.nD Cert.SbOutProjIdeal.τ Cert.SbOutProjIdeal.sig) → Buf (Elt Ideal) ℓ) : Prop :=
  True

def Pre_SbOutProjRefIdeal (m : (ℓ : Loc Cert.SbOutProjRefIdeal.nD Cert.SbOutProjRefIdeal.τ Cert.SbOutProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormPair (m : (ℓ : Loc Cert.NormPair.nD Cert.NormPair.τ Cert.NormPair.sig) → Buf (Elt Bits) ℓ) : Prop :=
  True

def Pre_NormPairIdeal (m : (ℓ : Loc Cert.NormPairIdeal.nD Cert.NormPairIdeal.τ Cert.NormPairIdeal.sig) → Buf (Elt Ideal) ℓ) : Prop :=
  True

def Pre_NormPairRefIdeal (m : (ℓ : Loc Cert.NormPairRefIdeal.nD Cert.NormPairRefIdeal.τ Cert.NormPairRefIdeal.sig) → Buf (Elt Ideal) ℓ) : Prop :=
  True

def Pre_WeightCast (m : (ℓ : Loc Cert.WeightCast.nD Cert.WeightCast.τ Cert.WeightCast.sig) → Buf (Elt Bits) ℓ) : Prop :=
  True

def Pre_WeightCastIdeal (m : (ℓ : Loc Cert.WeightCastIdeal.nD Cert.WeightCastIdeal.τ Cert.WeightCastIdeal.sig) → Buf (Elt Ideal) ℓ) : Prop :=
  True

def Pre_WeightCastRefIdeal (m : (ℓ : Loc Cert.WeightCastRefIdeal.nD Cert.WeightCastRefIdeal.τ Cert.WeightCastRefIdeal.sig) → Buf (Elt Ideal) ℓ) : Prop :=
  True

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_projection [hKernelIdeal : Cert.KernelIdeal.Facts] [hPre_finite_projection : Cert.Pre_finite_projection.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_projection m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_projection [hReferenceIdeal : Cert.ReferenceIdeal.Facts] [hPre_finite_projection : Cert.Pre_finite_projection.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_projection m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1))
      ∧ r.2.sem = fun _ => 0)

def quiescent_QueryProj [hQueryProj : Cert.QueryProj.Facts] : Prop :=
  ∀ (m : (ℓ : Loc Cert.QueryProj.nD Cert.QueryProj.τ Cert.QueryProj.sig) → Buf (Elt Bits) ℓ) (g : Dev Cert.QueryProj.nD → PrngReg), Pre_QueryProj m →
    θ_run (Cert.QueryProj.defs (F := Bits)) (onTc (τ := Cert.QueryProj.τ) (Cert.QueryProj.main (F := Bits))) ⟨m, fun _ => 0, g⟩ (fun r => (∀ c : Dev Cert.QueryProj.nD,
      r.2.mem ((c.tc : Thread Cert.QueryProj.nD Cert.QueryProj.τ).loc Cert.QueryProj.main_arg0) = m ((c.tc : Thread Cert.QueryProj.nD Cert.QueryProj.τ).loc Cert.QueryProj.main_arg0)
      ∧ r.2.mem ((c.tc : Thread Cert.QueryProj.nD Cert.QueryProj.τ).loc Cert.QueryProj.main_arg1) = m ((c.tc : Thread Cert.QueryProj.nD Cert.QueryProj.τ).loc Cert.QueryProj.main_arg1))
      ∧ r.2.sem = fun _ => 0)

def quiescent_QueryProjIdeal [hQueryProjIdeal : Cert.QueryProjIdeal.Facts] : Prop :=
  ∀ (m : (ℓ : Loc Cert.QueryProjIdeal.nD Cert.QueryProjIdeal.τ Cert.QueryProjIdeal.sig) → Buf (Elt Ideal) ℓ) (g : Dev Cert.QueryProjIdeal.nD → PrngReg), Pre_QueryProjIdeal m →
    θ_run (Cert.QueryProjIdeal.defs (F := Ideal)) (onTc (τ := Cert.QueryProjIdeal.τ) (Cert.QueryProjIdeal.main (F := Ideal))) ⟨m, fun _ => 0, g⟩ (fun r => (∀ c : Dev Cert.QueryProjIdeal.nD,
      r.2.mem ((c.tc : Thread Cert.QueryProjIdeal.nD Cert.QueryProjIdeal.τ).loc Cert.QueryProjIdeal.main_arg0) = m ((c.tc : Thread Cert.QueryProjIdeal.nD Cert.QueryProjIdeal.τ).loc Cert.QueryProjIdeal.main_arg0)
      ∧ r.2.mem ((c.tc : Thread Cert.QueryProjIdeal.nD Cert.QueryProjIdeal.τ).loc Cert.QueryProjIdeal.main_arg1) = m ((c.tc : Thread Cert.QueryProjIdeal.nD Cert.QueryProjIdeal.τ).loc Cert.QueryProjIdeal.main_arg1))
      ∧ r.2.sem = fun _ => 0)

def quiescent_QueryProjRefIdeal [hQueryProjRefIdeal : Cert.QueryProjRefIdeal.Facts] : Prop :=
  ∀ (m : (ℓ : Loc Cert.QueryProjRefIdeal.nD Cert.QueryProjRefIdeal.τ Cert.QueryProjRefIdeal.sig) → Buf (Elt Ideal) ℓ) (g : Dev Cert.QueryProjRefIdeal.nD → PrngReg), Pre_QueryProjRefIdeal m →
    θ_run (Cert.QueryProjRefIdeal.defs (F := Ideal)) (onTc (τ := Cert.QueryProjRefIdeal.τ) (Cert.QueryProjRefIdeal.main (F := Ideal))) ⟨m, fun _ => 0, g⟩ (fun r => (∀ c : Dev Cert.QueryProjRefIdeal.nD,
      r.2.mem ((c.tc : Thread Cert.QueryProjRefIdeal.nD Cert.QueryProjRefIdeal.τ).loc Cert.QueryProjRefIdeal.main_arg0) = m ((c.tc : Thread Cert.QueryProjRefIdeal.nD Cert.QueryProjRefIdeal.τ).loc Cert.QueryProjRefIdeal.main_arg0)
      ∧ r.2.mem ((c.tc : Thread Cert.QueryProjRefIdeal.nD Cert.QueryProjRefIdeal.τ).loc Cert.QueryProjRefIdeal.main_arg1) = m ((c.tc : Thread Cert.QueryProjRefIdeal.nD Cert.QueryProjRefIdeal.τ).loc Cert.QueryProjRefIdeal.main_arg1))
      ∧ r.2.sem = fun _ => 0)

def quiescent_PeerProj [hPeerProj : Cert.PeerProj.Facts] : Prop :=
  ∀ (m : (ℓ : Loc Cert.PeerProj.nD Cert.PeerProj.τ Cert.PeerProj.sig) → Buf (Elt Bits) ℓ) (g : Dev Cert.PeerProj.nD → PrngReg), Pre_PeerProj m →
    θ_run (Cert.PeerProj.defs (F := Bits)) (onTc (τ := Cert.PeerProj.τ) (Cert.PeerProj.main (F := Bits))) ⟨m, fun _ => 0, g⟩ (fun r => (∀ c : Dev Cert.PeerProj.nD,
      r.2.mem ((c.tc : Thread Cert.PeerProj.nD Cert.PeerProj.τ).loc Cert.PeerProj.main_arg0) = m ((c.tc : Thread Cert.PeerProj.nD Cert.PeerProj.τ).loc Cert.PeerProj.main_arg0)
      ∧ r.2.mem ((c.tc : Thread Cert.PeerProj.nD Cert.PeerProj.τ).loc Cert.PeerProj.main_arg1) = m ((c.tc : Thread Cert.PeerProj.nD Cert.PeerProj.τ).loc Cert.PeerProj.main_arg1))
      ∧ r.2.sem = fun _ => 0)

def quiescent_PeerProjIdeal [hPeerProjIdeal : Cert.PeerProjIdeal.Facts] : Prop :=
  ∀ (m : (ℓ : Loc Cert.PeerProjIdeal.nD Cert.PeerProjIdeal.τ Cert.PeerProjIdeal.sig) → Buf (Elt Ideal) ℓ) (g : Dev Cert.PeerProjIdeal.nD → PrngReg), Pre_PeerProjIdeal m →
    θ_run (Cert.PeerProjIdeal.defs (F := Ideal)) (onTc (τ := Cert.PeerProjIdeal.τ) (Cert.PeerProjIdeal.main (F := Ideal))) ⟨m, fun _ => 0, g⟩ (fun r => (∀ c : Dev Cert.PeerProjIdeal.nD,
      r.2.mem ((c.tc : Thread Cert.PeerProjIdeal.nD Cert.PeerProjIdeal.τ).loc Cert.PeerProjIdeal.main_arg0) = m ((c.tc : Thread Cert.PeerProjIdeal.nD Cert.PeerProjIdeal.τ).loc Cert.PeerProjIdeal.main_arg0)
      ∧ r.2.mem ((c.tc : Thread Cert.PeerProjIdeal.nD Cert.PeerProjIdeal.τ).loc Cert.PeerProjIdeal.main_arg1) = m ((c.tc : Thread Cert.PeerProjIdeal.nD Cert.PeerProjIdeal.τ).loc Cert.PeerProjIdeal.main_arg1))
      ∧ r.2.sem = fun _ => 0)

def quiescent_PeerProjRefIdeal [hPeerProjRefIdeal : Cert.PeerProjRefIdeal.Facts] : Prop :=
  ∀ (m : (ℓ : Loc Cert.PeerProjRefIdeal.nD Cert.PeerProjRefIdeal.τ Cert.PeerProjRefIdeal.sig) → Buf (Elt Ideal) ℓ) (g : Dev Cert.PeerProjRefIdeal.nD → PrngReg), Pre_PeerProjRefIdeal m →
    θ_run (Cert.PeerProjRefIdeal.defs (F := Ideal)) (onTc (τ := Cert.PeerProjRefIdeal.τ) (Cert.PeerProjRefIdeal.main (F := Ideal))) ⟨m, fun _ => 0, g⟩ (fun r => (∀ c : Dev Cert.PeerProjRefIdeal.nD,
      r.2.mem ((c.tc : Thread Cert.PeerProjRefIdeal.nD Cert.PeerProjRefIdeal.τ).loc Cert.PeerProjRefIdeal.main_arg0) = m ((c.tc : Thread Cert.PeerProjRefIdeal.nD Cert.PeerProjRefIdeal.τ).loc Cert.PeerProjRefIdeal.main_arg0)
      ∧ r.2.mem ((c.tc : Thread Cert.PeerProjRefIdeal.nD Cert.PeerProjRefIdeal.τ).loc Cert.PeerProjRefIdeal.main_arg1) = m ((c.tc : Thread Cert.PeerProjRefIdeal.nD Cert.PeerProjRefIdeal.τ).loc Cert.PeerProjRefIdeal.main_arg1))
      ∧ r.2.sem = fun _ => 0)

def quiescent_SbOutProj [hSbOutProj : Cert.SbOutProj.Facts] : Prop :=
  ∀ (m : (ℓ : Loc Cert.SbOutProj.nD Cert.SbOutProj.τ Cert.SbOutProj.sig) → Buf (Elt Bits) ℓ) (g : Dev Cert.SbOutProj.nD → PrngReg), Pre_SbOutProj m →
    θ_run (Cert.SbOutProj.defs (F := Bits)) (onTc (τ := Cert.SbOutProj.τ) (Cert.SbOutProj.main (F := Bits))) ⟨m, fun _ => 0, g⟩ (fun r => (∀ c : Dev Cert.SbOutProj.nD,
      r.2.mem ((c.tc : Thread Cert.SbOutProj.nD Cert.SbOutProj.τ).loc Cert.SbOutProj.main_arg0) = m ((c.tc : Thread Cert.SbOutProj.nD Cert.SbOutProj.τ).loc Cert.SbOutProj.main_arg0)
      ∧ r.2.mem ((c.tc : Thread Cert.SbOutProj.nD Cert.SbOutProj.τ).loc Cert.SbOutProj.main_arg1) = m ((c.tc : Thread Cert.SbOutProj.nD Cert.SbOutProj.τ).loc Cert.SbOutProj.main_arg1)
      ∧ r.2.mem ((c.tc : Thread Cert.SbOutProj.nD Cert.SbOutProj.τ).loc Cert.SbOutProj.main_arg2) = m ((c.tc : Thread Cert.SbOutProj.nD Cert.SbOutProj.τ).loc Cert.SbOutProj.main_arg2))
      ∧ r.2.sem = fun _ => 0)

def quiescent_SbOutProjIdeal [hSbOutProjIdeal : Cert.SbOutProjIdeal.Facts] : Prop :=
  ∀ (m : (ℓ : Loc Cert.SbOutProjIdeal.nD Cert.SbOutProjIdeal.τ Cert.SbOutProjIdeal.sig) → Buf (Elt Ideal) ℓ) (g : Dev Cert.SbOutProjIdeal.nD → PrngReg), Pre_SbOutProjIdeal m →
    θ_run (Cert.SbOutProjIdeal.defs (F := Ideal)) (onTc (τ := Cert.SbOutProjIdeal.τ) (Cert.SbOutProjIdeal.main (F := Ideal))) ⟨m, fun _ => 0, g⟩ (fun r => (∀ c : Dev Cert.SbOutProjIdeal.nD,
      r.2.mem ((c.tc : Thread Cert.SbOutProjIdeal.nD Cert.SbOutProjIdeal.τ).loc Cert.SbOutProjIdeal.main_arg0) = m ((c.tc : Thread Cert.SbOutProjIdeal.nD Cert.SbOutProjIdeal.τ).loc Cert.SbOutProjIdeal.main_arg0)
      ∧ r.2.mem ((c.tc : Thread Cert.SbOutProjIdeal.nD Cert.SbOutProjIdeal.τ).loc Cert.SbOutProjIdeal.main_arg1) = m ((c.tc : Thread Cert.SbOutProjIdeal.nD Cert.SbOutProjIdeal.τ).loc Cert.SbOutProjIdeal.main_arg1)
      ∧ r.2.mem ((c.tc : Thread Cert.SbOutProjIdeal.nD Cert.SbOutProjIdeal.τ).loc Cert.SbOutProjIdeal.main_arg2) = m ((c.tc : Thread Cert.SbOutProjIdeal.nD Cert.SbOutProjIdeal.τ).loc Cert.SbOutProjIdeal.main_arg2))
      ∧ r.2.sem = fun _ => 0)

def quiescent_SbOutProjRefIdeal [hSbOutProjRefIdeal : Cert.SbOutProjRefIdeal.Facts] : Prop :=
  ∀ (m : (ℓ : Loc Cert.SbOutProjRefIdeal.nD Cert.SbOutProjRefIdeal.τ Cert.SbOutProjRefIdeal.sig) → Buf (Elt Ideal) ℓ) (g : Dev Cert.SbOutProjRefIdeal.nD → PrngReg), Pre_SbOutProjRefIdeal m →
    θ_run (Cert.SbOutProjRefIdeal.defs (F := Ideal)) (onTc (τ := Cert.SbOutProjRefIdeal.τ) (Cert.SbOutProjRefIdeal.main (F := Ideal))) ⟨m, fun _ => 0, g⟩ (fun r => (∀ c : Dev Cert.SbOutProjRefIdeal.nD,
      r.2.mem ((c.tc : Thread Cert.SbOutProjRefIdeal.nD Cert.SbOutProjRefIdeal.τ).loc Cert.SbOutProjRefIdeal.main_arg0) = m ((c.tc : Thread Cert.SbOutProjRefIdeal.nD Cert.SbOutProjRefIdeal.τ).loc Cert.SbOutProjRefIdeal.main_arg0)
      ∧ r.2.mem ((c.tc : Thread Cert.SbOutProjRefIdeal.nD Cert.SbOutProjRefIdeal.τ).loc Cert.SbOutProjRefIdeal.main_arg1) = m ((c.tc : Thread Cert.SbOutProjRefIdeal.nD Cert.SbOutProjRefIdeal.τ).loc Cert.SbOutProjRefIdeal.main_arg1)
      ∧ r.2.mem ((c.tc : Thread Cert.SbOutProjRefIdeal.nD Cert.SbOutProjRefIdeal.τ).loc Cert.SbOutProjRefIdeal.main_arg2) = m ((c.tc : Thread Cert.SbOutProjRefIdeal.nD Cert.SbOutProjRefIdeal.τ).loc Cert.SbOutProjRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormPair [hNormPair : Cert.NormPair.Facts] : Prop :=
  ∀ (m : (ℓ : Loc Cert.NormPair.nD Cert.NormPair.τ Cert.NormPair.sig) → Buf (Elt Bits) ℓ) (g : Dev Cert.NormPair.nD → PrngReg), Pre_NormPair m →
    θ_run (Cert.NormPair.defs (F := Bits)) (onTc (τ := Cert.NormPair.τ) (Cert.NormPair.main (F := Bits))) ⟨m, fun _ => 0, g⟩ (fun r => (∀ c : Dev Cert.NormPair.nD,
      r.2.mem ((c.tc : Thread Cert.NormPair.nD Cert.NormPair.τ).loc Cert.NormPair.main_arg0) = m ((c.tc : Thread Cert.NormPair.nD Cert.NormPair.τ).loc Cert.NormPair.main_arg0)
      ∧ r.2.mem ((c.tc : Thread Cert.NormPair.nD Cert.NormPair.τ).loc Cert.NormPair.main_arg1) = m ((c.tc : Thread Cert.NormPair.nD Cert.NormPair.τ).loc Cert.NormPair.main_arg1))
      ∧ r.2.sem = fun _ => 0)

def quiescent_NormPairIdeal [hNormPairIdeal : Cert.NormPairIdeal.Facts] : Prop :=
  ∀ (m : (ℓ : Loc Cert.NormPairIdeal.nD Cert.NormPairIdeal.τ Cert.NormPairIdeal.sig) → Buf (Elt Ideal) ℓ) (g : Dev Cert.NormPairIdeal.nD → PrngReg), Pre_NormPairIdeal m →
    θ_run (Cert.NormPairIdeal.defs (F := Ideal)) (onTc (τ := Cert.NormPairIdeal.τ) (Cert.NormPairIdeal.main (F := Ideal))) ⟨m, fun _ => 0, g⟩ (fun r => (∀ c : Dev Cert.NormPairIdeal.nD,
      r.2.mem ((c.tc : Thread Cert.NormPairIdeal.nD Cert.NormPairIdeal.τ).loc Cert.NormPairIdeal.main_arg0) = m ((c.tc : Thread Cert.NormPairIdeal.nD Cert.NormPairIdeal.τ).loc Cert.NormPairIdeal.main_arg0)
      ∧ r.2.mem ((c.tc : Thread Cert.NormPairIdeal.nD Cert.NormPairIdeal.τ).loc Cert.NormPairIdeal.main_arg1) = m ((c.tc : Thread Cert.NormPairIdeal.nD Cert.NormPairIdeal.τ).loc Cert.NormPairIdeal.main_arg1))
      ∧ r.2.sem = fun _ => 0)

def quiescent_NormPairRefIdeal [hNormPairRefIdeal : Cert.NormPairRefIdeal.Facts] : Prop :=
  ∀ (m : (ℓ : Loc Cert.NormPairRefIdeal.nD Cert.NormPairRefIdeal.τ Cert.NormPairRefIdeal.sig) → Buf (Elt Ideal) ℓ) (g : Dev Cert.NormPairRefIdeal.nD → PrngReg), Pre_NormPairRefIdeal m →
    θ_run (Cert.NormPairRefIdeal.defs (F := Ideal)) (onTc (τ := Cert.NormPairRefIdeal.τ) (Cert.NormPairRefIdeal.main (F := Ideal))) ⟨m, fun _ => 0, g⟩ (fun r => (∀ c : Dev Cert.NormPairRefIdeal.nD,
      r.2.mem ((c.tc : Thread Cert.NormPairRefIdeal.nD Cert.NormPairRefIdeal.τ).loc Cert.NormPairRefIdeal.main_arg0) = m ((c.tc : Thread Cert.NormPairRefIdeal.nD Cert.NormPairRefIdeal.τ).loc Cert.NormPairRefIdeal.main_arg0)
      ∧ r.2.mem ((c.tc : Thread Cert.NormPairRefIdeal.nD Cert.NormPairRefIdeal.τ).loc Cert.NormPairRefIdeal.main_arg1) = m ((c.tc : Thread Cert.NormPairRefIdeal.nD Cert.NormPairRefIdeal.τ).loc Cert.NormPairRefIdeal.main_arg1))
      ∧ r.2.sem = fun _ => 0)

def quiescent_WeightCast [hWeightCast : Cert.WeightCast.Facts] : Prop :=
  ∀ (m : (ℓ : Loc Cert.WeightCast.nD Cert.WeightCast.τ Cert.WeightCast.sig) → Buf (Elt Bits) ℓ) (g : Dev Cert.WeightCast.nD → PrngReg), Pre_WeightCast m →
    θ_run (Cert.WeightCast.defs (F := Bits)) (onTc (τ := Cert.WeightCast.τ) (Cert.WeightCast.main (F := Bits))) ⟨m, fun _ => 0, g⟩ (fun r => (∀ c : Dev Cert.WeightCast.nD,
      r.2.mem ((c.tc : Thread Cert.WeightCast.nD Cert.WeightCast.τ).loc Cert.WeightCast.main_arg0) = m ((c.tc : Thread Cert.WeightCast.nD Cert.WeightCast.τ).loc Cert.WeightCast.main_arg0))
      ∧ r.2.sem = fun _ => 0)

def quiescent_WeightCastIdeal [hWeightCastIdeal : Cert.WeightCastIdeal.Facts] : Prop :=
  ∀ (m : (ℓ : Loc Cert.WeightCastIdeal.nD Cert.WeightCastIdeal.τ Cert.WeightCastIdeal.sig) → Buf (Elt Ideal) ℓ) (g : Dev Cert.WeightCastIdeal.nD → PrngReg), Pre_WeightCastIdeal m →
    θ_run (Cert.WeightCastIdeal.defs (F := Ideal)) (onTc (τ := Cert.WeightCastIdeal.τ) (Cert.WeightCastIdeal.main (F := Ideal))) ⟨m, fun _ => 0, g⟩ (fun r => (∀ c : Dev Cert.WeightCastIdeal.nD,
      r.2.mem ((c.tc : Thread Cert.WeightCastIdeal.nD Cert.WeightCastIdeal.τ).loc Cert.WeightCastIdeal.main_arg0) = m ((c.tc : Thread Cert.WeightCastIdeal.nD Cert.WeightCastIdeal.τ).loc Cert.WeightCastIdeal.main_arg0))
      ∧ r.2.sem = fun _ => 0)

def quiescent_WeightCastRefIdeal [hWeightCastRefIdeal : Cert.WeightCastRefIdeal.Facts] : Prop :=
  ∀ (m : (ℓ : Loc Cert.WeightCastRefIdeal.nD Cert.WeightCastRefIdeal.τ Cert.WeightCastRefIdeal.sig) → Buf (Elt Ideal) ℓ) (g : Dev Cert.WeightCastRefIdeal.nD → PrngReg), Pre_WeightCastRefIdeal m →
    θ_run (Cert.WeightCastRefIdeal.defs (F := Ideal)) (onTc (τ := Cert.WeightCastRefIdeal.τ) (Cert.WeightCastRefIdeal.main (F := Ideal))) ⟨m, fun _ => 0, g⟩ (fun r => (∀ c : Dev Cert.WeightCastRefIdeal.nD,
      r.2.mem ((c.tc : Thread Cert.WeightCastRefIdeal.nD Cert.WeightCastRefIdeal.τ).loc Cert.WeightCastRefIdeal.main_arg0) = m ((c.tc : Thread Cert.WeightCastRefIdeal.nD Cert.WeightCastRefIdeal.τ).loc Cert.WeightCastRefIdeal.main_arg0))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1)
      ∧ r.2.mem ((c.tc : Thread Cert.Stick.nD Cert.Stick.τ).loc Cert.Stick.main_arg2) = m ((c.tc : Thread Cert.Stick.nD Cert.Stick.τ).loc Cert.Stick.main_arg2)
      ∧ r.2.mem ((c.tc : Thread Cert.Stick.nD Cert.Stick.τ).loc Cert.Stick.main_arg3) = m ((c.tc : Thread Cert.Stick.nD Cert.Stick.τ).loc Cert.Stick.main_arg3))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2)
      ∧ r.2.mem ((c.tc : Thread Cert.StickIdeal.nD Cert.StickIdeal.τ).loc Cert.StickIdeal.main_arg3) = m ((c.tc : Thread Cert.StickIdeal.nD Cert.StickIdeal.τ).loc Cert.StickIdeal.main_arg3))
      ∧ r.2.sem = fun _ => 0)

def preserves_Kernel_KernelIdeal : Prop :=
  True

def algebraic_KernelIdeal_ReferenceIdeal_pre_finite_projection [hKernelIdeal : Cert.KernelIdeal.Facts] [hReferenceIdeal : Cert.ReferenceIdeal.Facts] [hPre_finite_projection : Cert.Pre_finite_projection.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_projection m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)) (v2 : (c : Dev Cert.InProjIdeal.nD) → Buf (Elt Ideal) ((c.tc : Thread Cert.InProjIdeal.nD Cert.InProjIdeal.τ).loc Cert.InProjIdeal.main_v1_2)) (v3 : (c : Dev Cert.InProjIdeal.nD) → Buf (Elt Ideal) ((c.tc : Thread Cert.InProjIdeal.nD Cert.InProjIdeal.τ).loc Cert.InProjIdeal.main_v1_3)) (v4 : (c : Dev Cert.InProjIdeal.nD) → Buf (Elt Ideal) ((c.tc : Thread Cert.InProjIdeal.nD Cert.InProjIdeal.τ).loc Cert.InProjIdeal.main_v1_4)) (v5 : (c : Dev Cert.InProjIdeal.nD) → Buf (Elt Ideal) ((c.tc : Thread Cert.InProjIdeal.nD Cert.InProjIdeal.τ).loc Cert.InProjIdeal.main_v1_5)) (v6 : (c : Dev Cert.InProjIdeal.nD) → Buf (Elt Ideal) ((c.tc : Thread Cert.InProjIdeal.nD Cert.InProjIdeal.τ).loc Cert.InProjIdeal.main_v1_6)) (v7 : (c : Dev Cert.InProjIdeal.nD) → Buf (Elt Ideal) ((c.tc : Thread Cert.InProjIdeal.nD Cert.InProjIdeal.τ).loc Cert.InProjIdeal.main_v1_7)) (v8 : (c : Dev Cert.InProjIdeal.nD) → Buf (Elt Ideal) ((c.tc : Thread Cert.InProjIdeal.nD Cert.InProjIdeal.τ).loc Cert.InProjIdeal.main_v1_8)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_v1_2) = v2 c
          ∧ r.2.mem ((c.tc : Thread Cert.InProjIdeal.nD Cert.InProjIdeal.τ).loc Cert.InProjIdeal.main_v1_3) = v3 c
          ∧ r.2.mem ((c.tc : Thread Cert.InProjIdeal.nD Cert.InProjIdeal.τ).loc Cert.InProjIdeal.main_v1_4) = v4 c
          ∧ r.2.mem ((c.tc : Thread Cert.InProjIdeal.nD Cert.InProjIdeal.τ).loc Cert.InProjIdeal.main_v1_5) = v5 c
          ∧ r.2.mem ((c.tc : Thread Cert.InProjIdeal.nD Cert.InProjIdeal.τ).loc Cert.InProjIdeal.main_v1_6) = v6 c
          ∧ r.2.mem ((c.tc : Thread Cert.InProjIdeal.nD Cert.InProjIdeal.τ).loc Cert.InProjIdeal.main_v1_7) = v7 c
          ∧ r.2.mem ((c.tc : Thread Cert.InProjIdeal.nD Cert.InProjIdeal.τ).loc Cert.InProjIdeal.main_v1_8) = v8 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_v13) = v1 c
          ∧ r.2.mem ((c.tc : Thread Cert.InProjRefIdeal.nD Cert.InProjRefIdeal.τ).loc Cert.InProjRefIdeal.main_v14) = v2 c
          ∧ r.2.mem ((c.tc : Thread Cert.InProjRefIdeal.nD Cert.InProjRefIdeal.τ).loc Cert.InProjRefIdeal.main_v15) = v3 c
          ∧ r.2.mem ((c.tc : Thread Cert.InProjRefIdeal.nD Cert.InProjRefIdeal.τ).loc Cert.InProjRefIdeal.main_v16) = v4 c
          ∧ r.2.mem ((c.tc : Thread Cert.InProjRefIdeal.nD Cert.InProjRefIdeal.τ).loc Cert.InProjRefIdeal.main_v17) = v5 c
          ∧ r.2.mem ((c.tc : Thread Cert.InProjRefIdeal.nD Cert.InProjRefIdeal.τ).loc Cert.InProjRefIdeal.main_v18) = v6 c
          ∧ r.2.mem ((c.tc : Thread Cert.InProjRefIdeal.nD Cert.InProjRefIdeal.τ).loc Cert.InProjRefIdeal.main_v19) = v7 c
          ∧ r.2.mem ((c.tc : Thread Cert.InProjRefIdeal.nD Cert.InProjRefIdeal.τ).loc Cert.InProjRefIdeal.main_v20) = v8 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)) (v2 : (c : Dev Cert.OutProjIdeal.nD) → Buf (Elt Ideal) ((c.tc : Thread Cert.OutProjIdeal.nD Cert.OutProjIdeal.τ).loc Cert.OutProjIdeal.main_v0_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_v0_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_v4) = v1 c
          ∧ r.2.mem ((c.tc : Thread Cert.OutProjRefIdeal.nD Cert.OutProjRefIdeal.τ).loc Cert.OutProjRefIdeal.main_v7) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)) →
    ∃ (v0 : (c : Dev Cert.KvProjIdeal.nD) → Buf (Elt Ideal) ((c.tc : Thread Cert.KvProjIdeal.nD Cert.KvProjIdeal.τ).loc Cert.KvProjIdeal.main_v0)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v0) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v1) = v0 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1))

def preserves_QueryProj_QueryProjIdeal : Prop :=
  True

def algebraic_QueryProjIdeal_QueryProjRefIdeal [hQueryProjIdeal : Cert.QueryProjIdeal.Facts] [hQueryProjRefIdeal : Cert.QueryProjRefIdeal.Facts] : Prop :=
  ∀ (m : (ℓ : Loc Cert.QueryProjIdeal.nD Cert.QueryProjIdeal.τ Cert.QueryProjIdeal.sig) → Buf (Elt Ideal) ℓ) (g : Dev Cert.QueryProjIdeal.nD → PrngReg)
    (m' : (ℓ : Loc Cert.QueryProjRefIdeal.nD Cert.QueryProjRefIdeal.τ Cert.QueryProjRefIdeal.sig) → Buf (Elt Ideal) ℓ) (g' : Dev Cert.QueryProjRefIdeal.nD → PrngReg), Pre_QueryProjIdeal m →
    (∀ c : Dev Cert.QueryProjIdeal.nD,
      m' ((c.tc : Thread Cert.QueryProjRefIdeal.nD Cert.QueryProjRefIdeal.τ).loc Cert.QueryProjRefIdeal.main_arg0) = m ((c.tc : Thread Cert.QueryProjIdeal.nD Cert.QueryProjIdeal.τ).loc Cert.QueryProjIdeal.main_arg0)
      ∧ m' ((c.tc : Thread Cert.QueryProjRefIdeal.nD Cert.QueryProjRefIdeal.τ).loc Cert.QueryProjRefIdeal.main_arg1) = m ((c.tc : Thread Cert.QueryProjIdeal.nD Cert.QueryProjIdeal.τ).loc Cert.QueryProjIdeal.main_arg1)) →
    ∃ (v0 : (c : Dev Cert.QueryProjIdeal.nD) → Buf (Elt Ideal) ((c.tc : Thread Cert.QueryProjIdeal.nD Cert.QueryProjIdeal.τ).loc Cert.QueryProjIdeal.main_v0)),
      θ_run (Cert.QueryProjIdeal.defs (F := Ideal)) (onTc (τ := Cert.QueryProjIdeal.τ) (Cert.QueryProjIdeal.main (F := Ideal))) ⟨m, fun _ => 0, g⟩ (fun r => ∀ c : Dev Cert.QueryProjIdeal.nD,
          r.2.mem ((c.tc : Thread Cert.QueryProjIdeal.nD Cert.QueryProjIdeal.τ).loc Cert.QueryProjIdeal.main_v0) = v0 c
          ∧ r.2.mem ((c.tc : Thread Cert.QueryProjIdeal.nD Cert.QueryProjIdeal.τ).loc Cert.QueryProjIdeal.main_arg0) = m ((c.tc : Thread Cert.QueryProjIdeal.nD Cert.QueryProjIdeal.τ).loc Cert.QueryProjIdeal.main_arg0)
          ∧ r.2.mem ((c.tc : Thread Cert.QueryProjIdeal.nD Cert.QueryProjIdeal.τ).loc Cert.QueryProjIdeal.main_arg1) = m ((c.tc : Thread Cert.QueryProjIdeal.nD Cert.QueryProjIdeal.τ).loc Cert.QueryProjIdeal.main_arg1))
      ∧ θ_run (Cert.QueryProjRefIdeal.defs (F := Ideal)) (onTc (τ := Cert.QueryProjRefIdeal.τ) (Cert.QueryProjRefIdeal.main (F := Ideal))) ⟨m', fun _ => 0, g'⟩ (fun r => ∀ c : Dev Cert.QueryProjRefIdeal.nD,
          r.2.mem ((c.tc : Thread Cert.QueryProjRefIdeal.nD Cert.QueryProjRefIdeal.τ).loc Cert.QueryProjRefIdeal.main_v1) = v0 c
          ∧ r.2.mem ((c.tc : Thread Cert.QueryProjRefIdeal.nD Cert.QueryProjRefIdeal.τ).loc Cert.QueryProjRefIdeal.main_arg0) = m' ((c.tc : Thread Cert.QueryProjRefIdeal.nD Cert.QueryProjRefIdeal.τ).loc Cert.QueryProjRefIdeal.main_arg0)
          ∧ r.2.mem ((c.tc : Thread Cert.QueryProjRefIdeal.nD Cert.QueryProjRefIdeal.τ).loc Cert.QueryProjRefIdeal.main_arg1) = m' ((c.tc : Thread Cert.QueryProjRefIdeal.nD Cert.QueryProjRefIdeal.τ).loc Cert.QueryProjRefIdeal.main_arg1))

def preserves_PeerProj_PeerProjIdeal : Prop :=
  True

def algebraic_PeerProjIdeal_PeerProjRefIdeal [hPeerProjIdeal : Cert.PeerProjIdeal.Facts] [hPeerProjRefIdeal : Cert.PeerProjRefIdeal.Facts] : Prop :=
  ∀ (m : (ℓ : Loc Cert.PeerProjIdeal.nD Cert.PeerProjIdeal.τ Cert.PeerProjIdeal.sig) → Buf (Elt Ideal) ℓ) (g : Dev Cert.PeerProjIdeal.nD → PrngReg)
    (m' : (ℓ : Loc Cert.PeerProjRefIdeal.nD Cert.PeerProjRefIdeal.τ Cert.PeerProjRefIdeal.sig) → Buf (Elt Ideal) ℓ) (g' : Dev Cert.PeerProjRefIdeal.nD → PrngReg), Pre_PeerProjIdeal m →
    (∀ c : Dev Cert.PeerProjIdeal.nD,
      m' ((c.tc : Thread Cert.PeerProjRefIdeal.nD Cert.PeerProjRefIdeal.τ).loc Cert.PeerProjRefIdeal.main_arg0) = m ((c.tc : Thread Cert.PeerProjIdeal.nD Cert.PeerProjIdeal.τ).loc Cert.PeerProjIdeal.main_arg0)
      ∧ m' ((c.tc : Thread Cert.PeerProjRefIdeal.nD Cert.PeerProjRefIdeal.τ).loc Cert.PeerProjRefIdeal.main_arg1) = m ((c.tc : Thread Cert.PeerProjIdeal.nD Cert.PeerProjIdeal.τ).loc Cert.PeerProjIdeal.main_arg1)) →
    ∃ (v0 : (c : Dev Cert.PeerProjIdeal.nD) → Buf (Elt Ideal) ((c.tc : Thread Cert.PeerProjIdeal.nD Cert.PeerProjIdeal.τ).loc Cert.PeerProjIdeal.main_v0)),
      θ_run (Cert.PeerProjIdeal.defs (F := Ideal)) (onTc (τ := Cert.PeerProjIdeal.τ) (Cert.PeerProjIdeal.main (F := Ideal))) ⟨m, fun _ => 0, g⟩ (fun r => ∀ c : Dev Cert.PeerProjIdeal.nD,
          r.2.mem ((c.tc : Thread Cert.PeerProjIdeal.nD Cert.PeerProjIdeal.τ).loc Cert.PeerProjIdeal.main_v0) = v0 c
          ∧ r.2.mem ((c.tc : Thread Cert.PeerProjIdeal.nD Cert.PeerProjIdeal.τ).loc Cert.PeerProjIdeal.main_arg0) = m ((c.tc : Thread Cert.PeerProjIdeal.nD Cert.PeerProjIdeal.τ).loc Cert.PeerProjIdeal.main_arg0)
          ∧ r.2.mem ((c.tc : Thread Cert.PeerProjIdeal.nD Cert.PeerProjIdeal.τ).loc Cert.PeerProjIdeal.main_arg1) = m ((c.tc : Thread Cert.PeerProjIdeal.nD Cert.PeerProjIdeal.τ).loc Cert.PeerProjIdeal.main_arg1))
      ∧ θ_run (Cert.PeerProjRefIdeal.defs (F := Ideal)) (onTc (τ := Cert.PeerProjRefIdeal.τ) (Cert.PeerProjRefIdeal.main (F := Ideal))) ⟨m', fun _ => 0, g'⟩ (fun r => ∀ c : Dev Cert.PeerProjRefIdeal.nD,
          r.2.mem ((c.tc : Thread Cert.PeerProjRefIdeal.nD Cert.PeerProjRefIdeal.τ).loc Cert.PeerProjRefIdeal.main_v1) = v0 c
          ∧ r.2.mem ((c.tc : Thread Cert.PeerProjRefIdeal.nD Cert.PeerProjRefIdeal.τ).loc Cert.PeerProjRefIdeal.main_arg0) = m' ((c.tc : Thread Cert.PeerProjRefIdeal.nD Cert.PeerProjRefIdeal.τ).loc Cert.PeerProjRefIdeal.main_arg0)
          ∧ r.2.mem ((c.tc : Thread Cert.PeerProjRefIdeal.nD Cert.PeerProjRefIdeal.τ).loc Cert.PeerProjRefIdeal.main_arg1) = m' ((c.tc : Thread Cert.PeerProjRefIdeal.nD Cert.PeerProjRefIdeal.τ).loc Cert.PeerProjRefIdeal.main_arg1))

def preserves_SbOutProj_SbOutProjIdeal : Prop :=
  True

def algebraic_SbOutProjIdeal_SbOutProjRefIdeal [hSbOutProjIdeal : Cert.SbOutProjIdeal.Facts] [hSbOutProjRefIdeal : Cert.SbOutProjRefIdeal.Facts] : Prop :=
  ∀ (m : (ℓ : Loc Cert.SbOutProjIdeal.nD Cert.SbOutProjIdeal.τ Cert.SbOutProjIdeal.sig) → Buf (Elt Ideal) ℓ) (g : Dev Cert.SbOutProjIdeal.nD → PrngReg)
    (m' : (ℓ : Loc Cert.SbOutProjRefIdeal.nD Cert.SbOutProjRefIdeal.τ Cert.SbOutProjRefIdeal.sig) → Buf (Elt Ideal) ℓ) (g' : Dev Cert.SbOutProjRefIdeal.nD → PrngReg), Pre_SbOutProjIdeal m →
    (∀ c : Dev Cert.SbOutProjIdeal.nD,
      m' ((c.tc : Thread Cert.SbOutProjRefIdeal.nD Cert.SbOutProjRefIdeal.τ).loc Cert.SbOutProjRefIdeal.main_arg0) = m ((c.tc : Thread Cert.SbOutProjIdeal.nD Cert.SbOutProjIdeal.τ).loc Cert.SbOutProjIdeal.main_arg0)
      ∧ m' ((c.tc : Thread Cert.SbOutProjRefIdeal.nD Cert.SbOutProjRefIdeal.τ).loc Cert.SbOutProjRefIdeal.main_arg1) = m ((c.tc : Thread Cert.SbOutProjIdeal.nD Cert.SbOutProjIdeal.τ).loc Cert.SbOutProjIdeal.main_arg1)
      ∧ m' ((c.tc : Thread Cert.SbOutProjRefIdeal.nD Cert.SbOutProjRefIdeal.τ).loc Cert.SbOutProjRefIdeal.main_arg2) = m ((c.tc : Thread Cert.SbOutProjIdeal.nD Cert.SbOutProjIdeal.τ).loc Cert.SbOutProjIdeal.main_arg2)) →
    ∃ (v0 : (c : Dev Cert.SbOutProjIdeal.nD) → Buf (Elt Ideal) ((c.tc : Thread Cert.SbOutProjIdeal.nD Cert.SbOutProjIdeal.τ).loc Cert.SbOutProjIdeal.main_v0)),
      θ_run (Cert.SbOutProjIdeal.defs (F := Ideal)) (onTc (τ := Cert.SbOutProjIdeal.τ) (Cert.SbOutProjIdeal.main (F := Ideal))) ⟨m, fun _ => 0, g⟩ (fun r => ∀ c : Dev Cert.SbOutProjIdeal.nD,
          r.2.mem ((c.tc : Thread Cert.SbOutProjIdeal.nD Cert.SbOutProjIdeal.τ).loc Cert.SbOutProjIdeal.main_v0) = v0 c
          ∧ r.2.mem ((c.tc : Thread Cert.SbOutProjIdeal.nD Cert.SbOutProjIdeal.τ).loc Cert.SbOutProjIdeal.main_arg0) = m ((c.tc : Thread Cert.SbOutProjIdeal.nD Cert.SbOutProjIdeal.τ).loc Cert.SbOutProjIdeal.main_arg0)
          ∧ r.2.mem ((c.tc : Thread Cert.SbOutProjIdeal.nD Cert.SbOutProjIdeal.τ).loc Cert.SbOutProjIdeal.main_arg1) = m ((c.tc : Thread Cert.SbOutProjIdeal.nD Cert.SbOutProjIdeal.τ).loc Cert.SbOutProjIdeal.main_arg1)
          ∧ r.2.mem ((c.tc : Thread Cert.SbOutProjIdeal.nD Cert.SbOutProjIdeal.τ).loc Cert.SbOutProjIdeal.main_arg2) = m ((c.tc : Thread Cert.SbOutProjIdeal.nD Cert.SbOutProjIdeal.τ).loc Cert.SbOutProjIdeal.main_arg2))
      ∧ θ_run (Cert.SbOutProjRefIdeal.defs (F := Ideal)) (onTc (τ := Cert.SbOutProjRefIdeal.τ) (Cert.SbOutProjRefIdeal.main (F := Ideal))) ⟨m', fun _ => 0, g'⟩ (fun r => ∀ c : Dev Cert.SbOutProjRefIdeal.nD,
          r.2.mem ((c.tc : Thread Cert.SbOutProjRefIdeal.nD Cert.SbOutProjRefIdeal.τ).loc Cert.SbOutProjRefIdeal.main_v1) = v0 c
          ∧ r.2.mem ((c.tc : Thread Cert.SbOutProjRefIdeal.nD Cert.SbOutProjRefIdeal.τ).loc Cert.SbOutProjRefIdeal.main_arg0) = m' ((c.tc : Thread Cert.SbOutProjRefIdeal.nD Cert.SbOutProjRefIdeal.τ).loc Cert.SbOutProjRefIdeal.main_arg0)
          ∧ r.2.mem ((c.tc : Thread Cert.SbOutProjRefIdeal.nD Cert.SbOutProjRefIdeal.τ).loc Cert.SbOutProjRefIdeal.main_arg1) = m' ((c.tc : Thread Cert.SbOutProjRefIdeal.nD Cert.SbOutProjRefIdeal.τ).loc Cert.SbOutProjRefIdeal.main_arg1)
          ∧ r.2.mem ((c.tc : Thread Cert.SbOutProjRefIdeal.nD Cert.SbOutProjRefIdeal.τ).loc Cert.SbOutProjRefIdeal.main_arg2) = m' ((c.tc : Thread Cert.SbOutProjRefIdeal.nD Cert.SbOutProjRefIdeal.τ).loc Cert.SbOutProjRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormPair_NormPairIdeal : Prop :=
  True

def algebraic_NormPairIdeal_NormPairRefIdeal [hNormPairIdeal : Cert.NormPairIdeal.Facts] [hNormPairRefIdeal : Cert.NormPairRefIdeal.Facts] : Prop :=
  ∀ (m : (ℓ : Loc Cert.NormPairIdeal.nD Cert.NormPairIdeal.τ Cert.NormPairIdeal.sig) → Buf (Elt Ideal) ℓ) (g : Dev Cert.NormPairIdeal.nD → PrngReg)
    (m' : (ℓ : Loc Cert.NormPairRefIdeal.nD Cert.NormPairRefIdeal.τ Cert.NormPairRefIdeal.sig) → Buf (Elt Ideal) ℓ) (g' : Dev Cert.NormPairRefIdeal.nD → PrngReg), Pre_NormPairIdeal m →
    (∀ c : Dev Cert.NormPairIdeal.nD,
      m' ((c.tc : Thread Cert.NormPairRefIdeal.nD Cert.NormPairRefIdeal.τ).loc Cert.NormPairRefIdeal.main_arg0) = m ((c.tc : Thread Cert.NormPairIdeal.nD Cert.NormPairIdeal.τ).loc Cert.NormPairIdeal.main_arg0)
      ∧ m' ((c.tc : Thread Cert.NormPairRefIdeal.nD Cert.NormPairRefIdeal.τ).loc Cert.NormPairRefIdeal.main_arg1) = m ((c.tc : Thread Cert.NormPairIdeal.nD Cert.NormPairIdeal.τ).loc Cert.NormPairIdeal.main_arg1)) →
    ∃ (v0 : (c : Dev Cert.NormPairIdeal.nD) → Buf (Elt Ideal) ((c.tc : Thread Cert.NormPairIdeal.nD Cert.NormPairIdeal.τ).loc Cert.NormPairIdeal.main_v0_0)) (v1 : (c : Dev Cert.NormPairIdeal.nD) → Buf (Elt Ideal) ((c.tc : Thread Cert.NormPairIdeal.nD Cert.NormPairIdeal.τ).loc Cert.NormPairIdeal.main_v0_1)),
      θ_run (Cert.NormPairIdeal.defs (F := Ideal)) (onTc (τ := Cert.NormPairIdeal.τ) (Cert.NormPairIdeal.main (F := Ideal))) ⟨m, fun _ => 0, g⟩ (fun r => ∀ c : Dev Cert.NormPairIdeal.nD,
          r.2.mem ((c.tc : Thread Cert.NormPairIdeal.nD Cert.NormPairIdeal.τ).loc Cert.NormPairIdeal.main_v0_0) = v0 c
          ∧ r.2.mem ((c.tc : Thread Cert.NormPairIdeal.nD Cert.NormPairIdeal.τ).loc Cert.NormPairIdeal.main_v0_1) = v1 c
          ∧ r.2.mem ((c.tc : Thread Cert.NormPairIdeal.nD Cert.NormPairIdeal.τ).loc Cert.NormPairIdeal.main_arg0) = m ((c.tc : Thread Cert.NormPairIdeal.nD Cert.NormPairIdeal.τ).loc Cert.NormPairIdeal.main_arg0)
          ∧ r.2.mem ((c.tc : Thread Cert.NormPairIdeal.nD Cert.NormPairIdeal.τ).loc Cert.NormPairIdeal.main_arg1) = m ((c.tc : Thread Cert.NormPairIdeal.nD Cert.NormPairIdeal.τ).loc Cert.NormPairIdeal.main_arg1))
      ∧ θ_run (Cert.NormPairRefIdeal.defs (F := Ideal)) (onTc (τ := Cert.NormPairRefIdeal.τ) (Cert.NormPairRefIdeal.main (F := Ideal))) ⟨m', fun _ => 0, g'⟩ (fun r => ∀ c : Dev Cert.NormPairRefIdeal.nD,
          r.2.mem ((c.tc : Thread Cert.NormPairRefIdeal.nD Cert.NormPairRefIdeal.τ).loc Cert.NormPairRefIdeal.main_v15) = v0 c
          ∧ r.2.mem ((c.tc : Thread Cert.NormPairRefIdeal.nD Cert.NormPairRefIdeal.τ).loc Cert.NormPairRefIdeal.main_v31) = v1 c
          ∧ r.2.mem ((c.tc : Thread Cert.NormPairRefIdeal.nD Cert.NormPairRefIdeal.τ).loc Cert.NormPairRefIdeal.main_arg0) = m' ((c.tc : Thread Cert.NormPairRefIdeal.nD Cert.NormPairRefIdeal.τ).loc Cert.NormPairRefIdeal.main_arg0)
          ∧ r.2.mem ((c.tc : Thread Cert.NormPairRefIdeal.nD Cert.NormPairRefIdeal.τ).loc Cert.NormPairRefIdeal.main_arg1) = m' ((c.tc : Thread Cert.NormPairRefIdeal.nD Cert.NormPairRefIdeal.τ).loc Cert.NormPairRefIdeal.main_arg1))

def preserves_WeightCast_WeightCastIdeal : Prop :=
  True

def algebraic_WeightCastIdeal_WeightCastRefIdeal [hWeightCastIdeal : Cert.WeightCastIdeal.Facts] [hWeightCastRefIdeal : Cert.WeightCastRefIdeal.Facts] : Prop :=
  ∀ (m : (ℓ : Loc Cert.WeightCastIdeal.nD Cert.WeightCastIdeal.τ Cert.WeightCastIdeal.sig) → Buf (Elt Ideal) ℓ) (g : Dev Cert.WeightCastIdeal.nD → PrngReg)
    (m' : (ℓ : Loc Cert.WeightCastRefIdeal.nD Cert.WeightCastRefIdeal.τ Cert.WeightCastRefIdeal.sig) → Buf (Elt Ideal) ℓ) (g' : Dev Cert.WeightCastRefIdeal.nD → PrngReg), Pre_WeightCastIdeal m →
    (∀ c : Dev Cert.WeightCastIdeal.nD,
      m' ((c.tc : Thread Cert.WeightCastRefIdeal.nD Cert.WeightCastRefIdeal.τ).loc Cert.WeightCastRefIdeal.main_arg0) = m ((c.tc : Thread Cert.WeightCastIdeal.nD Cert.WeightCastIdeal.τ).loc Cert.WeightCastIdeal.main_arg0)) →
    ∃ (v0 : (c : Dev Cert.WeightCastIdeal.nD) → Buf (Elt Ideal) ((c.tc : Thread Cert.WeightCastIdeal.nD Cert.WeightCastIdeal.τ).loc Cert.WeightCastIdeal.main_v0)),
      θ_run (Cert.WeightCastIdeal.defs (F := Ideal)) (onTc (τ := Cert.WeightCastIdeal.τ) (Cert.WeightCastIdeal.main (F := Ideal))) ⟨m, fun _ => 0, g⟩ (fun r => ∀ c : Dev Cert.WeightCastIdeal.nD,
          r.2.mem ((c.tc : Thread Cert.WeightCastIdeal.nD Cert.WeightCastIdeal.τ).loc Cert.WeightCastIdeal.main_v0) = v0 c
          ∧ r.2.mem ((c.tc : Thread Cert.WeightCastIdeal.nD Cert.WeightCastIdeal.τ).loc Cert.WeightCastIdeal.main_arg0) = m ((c.tc : Thread Cert.WeightCastIdeal.nD Cert.WeightCastIdeal.τ).loc Cert.WeightCastIdeal.main_arg0))
      ∧ θ_run (Cert.WeightCastRefIdeal.defs (F := Ideal)) (onTc (τ := Cert.WeightCastRefIdeal.τ) (Cert.WeightCastRefIdeal.main (F := Ideal))) ⟨m', fun _ => 0, g'⟩ (fun r => ∀ c : Dev Cert.WeightCastRefIdeal.nD,
          r.2.mem ((c.tc : Thread Cert.WeightCastRefIdeal.nD Cert.WeightCastRefIdeal.τ).loc Cert.WeightCastRefIdeal.main_v1) = v0 c
          ∧ r.2.mem ((c.tc : Thread Cert.WeightCastRefIdeal.nD Cert.WeightCastRefIdeal.τ).loc Cert.WeightCastRefIdeal.main_arg0) = m' ((c.tc : Thread Cert.WeightCastRefIdeal.nD Cert.WeightCastRefIdeal.τ).loc Cert.WeightCastRefIdeal.main_arg0))

def preserves_Stick_StickIdeal : Prop :=
  True

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hKvProj : Cert.KvProj.Facts) (hKvProjIdeal : Cert.KvProjIdeal.Facts) (hKvProjRefIdeal : Cert.KvProjRefIdeal.Facts) (hQueryProj : Cert.QueryProj.Facts) (hQueryProjIdeal : Cert.QueryProjIdeal.Facts) (hQueryProjRefIdeal : Cert.QueryProjRefIdeal.Facts) (hPeerProj : Cert.PeerProj.Facts) (hPeerProjIdeal : Cert.PeerProjIdeal.Facts) (hPeerProjRefIdeal : Cert.PeerProjRefIdeal.Facts) (hSbOutProj : Cert.SbOutProj.Facts) (hSbOutProjIdeal : Cert.SbOutProjIdeal.Facts) (hSbOutProjRefIdeal : Cert.SbOutProjRefIdeal.Facts) (hNorm : Cert.Norm.Facts) (hNormIdeal : Cert.NormIdeal.Facts) (hNormRefIdeal : Cert.NormRefIdeal.Facts) (hNormPair : Cert.NormPair.Facts) (hNormPairIdeal : Cert.NormPairIdeal.Facts) (hNormPairRefIdeal : Cert.NormPairRefIdeal.Facts) (hWeightCast : Cert.WeightCast.Facts) (hWeightCastIdeal : Cert.WeightCastIdeal.Facts) (hWeightCastRefIdeal : Cert.WeightCastRefIdeal.Facts) (hStick : Cert.Stick.Facts) (hStickIdeal : Cert.StickIdeal.Facts) (hPre_finite_projection : Cert.Pre_finite_projection.Facts),
    quiescent_Kernel (hKernel := hKernel)
    ∧ quiescent_KernelIdeal (hKernelIdeal := hKernelIdeal)
    ∧ quiescent_KernelIdeal_pre_finite_projection (hKernelIdeal := hKernelIdeal) (hPre_finite_projection := hPre_finite_projection)
    ∧ quiescent_ReferenceIdeal (hReferenceIdeal := hReferenceIdeal)
    ∧ quiescent_ReferenceIdeal_pre_finite_projection (hReferenceIdeal := hReferenceIdeal) (hPre_finite_projection := hPre_finite_projection)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_QueryProj (hQueryProj := hQueryProj)
    ∧ quiescent_QueryProjIdeal (hQueryProjIdeal := hQueryProjIdeal)
    ∧ quiescent_QueryProjRefIdeal (hQueryProjRefIdeal := hQueryProjRefIdeal)
    ∧ quiescent_PeerProj (hPeerProj := hPeerProj)
    ∧ quiescent_PeerProjIdeal (hPeerProjIdeal := hPeerProjIdeal)
    ∧ quiescent_PeerProjRefIdeal (hPeerProjRefIdeal := hPeerProjRefIdeal)
    ∧ quiescent_SbOutProj (hSbOutProj := hSbOutProj)
    ∧ quiescent_SbOutProjIdeal (hSbOutProjIdeal := hSbOutProjIdeal)
    ∧ quiescent_SbOutProjRefIdeal (hSbOutProjRefIdeal := hSbOutProjRefIdeal)
    ∧ quiescent_Norm (hNorm := hNorm)
    ∧ quiescent_NormIdeal (hNormIdeal := hNormIdeal)
    ∧ quiescent_NormRefIdeal (hNormRefIdeal := hNormRefIdeal)
    ∧ quiescent_NormPair (hNormPair := hNormPair)
    ∧ quiescent_NormPairIdeal (hNormPairIdeal := hNormPairIdeal)
    ∧ quiescent_NormPairRefIdeal (hNormPairRefIdeal := hNormPairRefIdeal)
    ∧ quiescent_WeightCast (hWeightCast := hWeightCast)
    ∧ quiescent_WeightCastIdeal (hWeightCastIdeal := hWeightCastIdeal)
    ∧ quiescent_WeightCastRefIdeal (hWeightCastRefIdeal := hWeightCastRefIdeal)
    ∧ quiescent_Stick (hStick := hStick)
    ∧ quiescent_StickIdeal (hStickIdeal := hStickIdeal)
    ∧ preserves_Kernel_KernelIdeal
    ∧ algebraic_KernelIdeal_ReferenceIdeal_pre_finite_projection (hKernelIdeal := hKernelIdeal) (hReferenceIdeal := hReferenceIdeal) (hPre_finite_projection := hPre_finite_projection)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_KvProj_KvProjIdeal
    ∧ algebraic_KvProjIdeal_KvProjRefIdeal (hKvProjIdeal := hKvProjIdeal) (hKvProjRefIdeal := hKvProjRefIdeal)
    ∧ preserves_QueryProj_QueryProjIdeal
    ∧ algebraic_QueryProjIdeal_QueryProjRefIdeal (hQueryProjIdeal := hQueryProjIdeal) (hQueryProjRefIdeal := hQueryProjRefIdeal)
    ∧ preserves_PeerProj_PeerProjIdeal
    ∧ algebraic_PeerProjIdeal_PeerProjRefIdeal (hPeerProjIdeal := hPeerProjIdeal) (hPeerProjRefIdeal := hPeerProjRefIdeal)
    ∧ preserves_SbOutProj_SbOutProjIdeal
    ∧ algebraic_SbOutProjIdeal_SbOutProjRefIdeal (hSbOutProjIdeal := hSbOutProjIdeal) (hSbOutProjRefIdeal := hSbOutProjRefIdeal)
    ∧ preserves_Norm_NormIdeal
    ∧ algebraic_NormIdeal_NormRefIdeal (hNormIdeal := hNormIdeal) (hNormRefIdeal := hNormRefIdeal)
    ∧ preserves_NormPair_NormPairIdeal
    ∧ algebraic_NormPairIdeal_NormPairRefIdeal (hNormPairIdeal := hNormPairIdeal) (hNormPairRefIdeal := hNormPairRefIdeal)
    ∧ preserves_WeightCast_WeightCastIdeal
    ∧ algebraic_WeightCastIdeal_WeightCastRefIdeal (hWeightCastIdeal := hWeightCastIdeal) (hWeightCastRefIdeal := hWeightCastRefIdeal)
    ∧ preserves_Stick_StickIdeal
-- ==== Pre_finite_projection.lean ====
abbrev S16384x24576 : Shape := ⟨2, ![16384, 24576]⟩
abbrev S16x512 : Shape := ⟨2, ![16, 512]⟩
abbrev S_ : Shape := ⟨0, ![]⟩

class Facts : Prop where
  bitsLt_bf16_f32 : FTy.bits .bf16 < FTy.bits .f32
  bcast_S_S16384x24576 : S_.BroadcastsInDim S16384x24576 (![] : Fin 0 → Fin S16384x24576.rank)

variable [Facts]

def fn {F : FTy → Type} [FloatOps F] (main_arg0 : FVec F S16384x24576 .bf16) (main_arg1 : FVec F S16x512 .f32) : IVec S16384x24576 1 :=
  let main_v0 : FVec F S16384x24576 .f32 := (extf .f32 · bitsLt_bf16_f32) main_arg0
  let main_v1 : FVec F S16384x24576 .f32 := Host.absf main_v0
  let main_cst : FVec F S_ .f32 := constant S_ .f32 0x7F800000#32
  let main_v2 : FVec F S16384x24576 .f32 := broadcastInDim S16384x24576 ![] bcast_S_S16384x24576 main_cst
  let main_v3 : IVec S16384x24576 1 := cmpf .olt main_v1 main_v2
  main_v3
-- ==== Kernel.lean ====
abbrev S16384x24576 : Shape := ⟨2, ![16384, 24576]⟩
abbrev S16x512 : Shape := ⟨2, ![16, 512]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S16 : Shape := ⟨1, ![16]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S16x1x1 : Shape := ⟨3, ![16, 1, 1]⟩
abbrev S16x256x256 : Shape := ⟨3, ![16, 256, 256]⟩
abbrev S16x1 : Shape := ⟨2, ![16, 1]⟩
abbrev S16x256 : Shape := ⟨2, ![16, 256]⟩
abbrev S16x256x1 : Shape := ⟨3, ![16, 256, 1]⟩
abbrev S16x1x512 : Shape := ⟨3, ![16, 1, 512]⟩
abbrev S16384x8192 : Shape := ⟨2, ![16384, 8192]⟩
abbrev S1024x256 : Shape := ⟨2, ![1024, 256]⟩
abbrev S1024x512 : Shape := ⟨2, ![1024, 512]⟩
abbrev S1024x128 : Shape := ⟨2, ![1024, 128]⟩
abbrev S1x256x1 : Shape := ⟨3, ![1, 256, 1]⟩
abbrev S1x1x512 : Shape := ⟨3, ![1, 1, 512]⟩
abbrev S256x512 : Shape := ⟨2, ![256, 512]⟩
abbrev S256x128 : Shape := ⟨2, ![256, 128]⟩
abbrev S1x512 : Shape := ⟨2, ![1, 512]⟩

abbrev nBuf : Space → Nat
  | .hbm => 89
  | .vmem => 25
  | .smem => 0
  | _ => 0

abbrev bufTy : (tb : Table) → Fin (tcTables nBuf tb) → BufTy
  | .hbm, ⟨0, _⟩ => ⟨S16384x24576, .bf16⟩
  | .hbm, ⟨1, _⟩ => ⟨S16x512, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S4096, .f32⟩
  | .hbm, ⟨19, _⟩ => ⟨S4096x1, .f32⟩
  | .hbm, ⟨20, _⟩ => ⟨S1x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S16, .f32⟩
  | .hbm, ⟨36, _⟩ => ⟨S256, .f32⟩
  | .hbm, ⟨37, _⟩ => ⟨S256x1, .f32⟩
  | .hbm, ⟨38, _⟩ => ⟨S1x256, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S_, .f32⟩
  | .hbm, ⟨43, _⟩ => ⟨S256x256, .f32⟩
  | .hbm, ⟨44, _⟩ => ⟨S256x256, .i1⟩
  | .hbm, ⟨45, _⟩ => ⟨S1x256x256, .i1⟩
  | .hbm, ⟨46, _⟩ => ⟨S_, .f32⟩
  | .hbm, ⟨47, _⟩ => ⟨S_, .f32⟩
  | .hbm, ⟨48, _⟩ => ⟨S256x256, .f32⟩
  | .hbm, ⟨49, _⟩ => ⟨S256x256, .f32⟩
  | .hbm, ⟨50, _⟩ => ⟨S1x256x256, .f32⟩
  | .hbm, ⟨51, _⟩ => ⟨S16x1x1, .f32⟩
  | .hbm, ⟨52, _⟩ => ⟨S16x256x256, .f32⟩
  | .hbm, ⟨53, _⟩ => ⟨S16x256x256, .f32⟩
  | .hbm, ⟨54, _⟩ => ⟨S16x256x256, .f32⟩
  | .hbm, ⟨55, _⟩ => ⟨S16x256x256, .f32⟩
  | .hbm, ⟨56, _⟩ => ⟨S_, .f32⟩
  | .hbm, ⟨57, _⟩ => ⟨S_, .f32⟩
  | .hbm, ⟨58, _⟩ => ⟨S16x256x256, .i1⟩
  | .hbm, ⟨59, _⟩ => ⟨S16x256x256, .f32⟩
  | .hbm, ⟨60, _⟩ => ⟨S16x256x256, .f32⟩
  | .hbm, ⟨61, _⟩ => ⟨S1x256, .f32⟩
  | .hbm, ⟨62, _⟩ => ⟨S_, .f32⟩
  | .hbm, ⟨63, _⟩ => ⟨S1x256, .f32⟩
  | .hbm, ⟨64, _⟩ => ⟨S1x256, .f32⟩
  | .hbm, ⟨65, _⟩ => ⟨S16x1, .f32⟩
  | .hbm, ⟨66, _⟩ => ⟨S16x256, .f32⟩
  | .hbm, ⟨67, _⟩ => ⟨S16x256, .f32⟩
  | .hbm, ⟨68, _⟩ => ⟨S16x256, .f32⟩
  | .hbm, ⟨69, _⟩ => ⟨S16x256, .f32⟩
  | .hbm, ⟨70, _⟩ => ⟨S16x256x1, .f32⟩
  | .hbm, ⟨71, _⟩ => ⟨S1x256, .f32⟩
  | .hbm, ⟨72, _⟩ => ⟨S_, .f32⟩
  | .hbm, ⟨73, _⟩ => ⟨S1x256, .f32⟩
  | .hbm, ⟨74, _⟩ => ⟨S1x256, .f32⟩
  | .hbm, ⟨75, _⟩ => ⟨S16x1, .f32⟩
  | .hbm, ⟨76, _⟩ => ⟨S16x256, .f32⟩
  | .hbm, ⟨77, _⟩ => ⟨S16x256, .f32⟩
  | .hbm, ⟨78, _⟩ => ⟨S16x256, .f32⟩
  | .hbm, ⟨79, _⟩ => ⟨S16x256, .f32⟩
  | .hbm, ⟨80, _⟩ => ⟨S16x256x1, .f32⟩
  | .hbm, ⟨81, _⟩ => ⟨S_, .f32⟩
  | .hbm, ⟨82, _⟩ => ⟨S16, .f32⟩
  | .hbm, ⟨83, _⟩ => ⟨S16, .f32⟩
  | .hbm, ⟨84, _⟩ => ⟨S16, .f32⟩
  | .hbm, ⟨85, _⟩ => ⟨S16x1x1, .f32⟩
  | .hbm, ⟨86, _⟩ => ⟨S16x1x512, .f32⟩
  | .hbm, ⟨87, _⟩ => ⟨S16x1x512, .f32⟩
  | .hbm, ⟨88, _⟩ => ⟨S16384x8192, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x256x256, .f32⟩
  | .local _ .vmem, ⟨13, _⟩ => ⟨S1x256x256, .f32⟩
  | .local _ .vmem, ⟨14, _⟩ => ⟨S1x256x1, .f32⟩
  | .local _ .vmem, ⟨15, _⟩ => ⟨S1x256x1, .f32⟩
  | .local _ .vmem, ⟨16, _⟩ => ⟨S1x256x1, .f32⟩
  | .local _ .vmem, ⟨17, _⟩ => ⟨S1x256x1, .f32⟩
  | .local _ .vmem, ⟨18, _⟩ => ⟨S1x1x512, .f32⟩
  | .local _ .vmem, ⟨19, _⟩ => ⟨S1x1x512, .f32⟩
  | .local _ .vmem, ⟨20, _⟩ => ⟨S1x1x512, .f32⟩
  | .local _ .vmem, ⟨21, _⟩ => ⟨S1x1x512, .f32⟩
  | .local _ .vmem, ⟨22, _⟩ => ⟨S1024x512, .bf16⟩
  | .local _ .vmem, ⟨23, _⟩ => ⟨S1024x512, .bf16⟩
  | .local _ .vmem, ⟨24, _⟩ => ⟨S256x512, .f32⟩
  | _, _ => ⟨S16384x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_7 : Ref sig .tc := ⟨.hbm, 46, rfl⟩
abbrev main_call0_v0 : Ref sig .tc := ⟨.hbm, 47, rfl⟩
abbrev main_call0_v1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c32_i32 : BitVec 32 := 32#32
  let v2 : BitVec 32 := Scalar.addi c32_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== ReferenceIdeal.lean ====
abbrev S16384x24576 : Shape := ⟨2, ![16384, 24576]⟩
abbrev S16x512 : Shape := ⟨2, ![16, 512]⟩
abbrev S4x4096x24576 : Shape := ⟨3, ![4, 4096, 24576]⟩
abbrev S4x4096x4096 : Shape := ⟨3, ![4, 4096, 4096]⟩
abbrev S4x4096x16x256 : Shape := ⟨4, ![4, 4096, 16, 256]⟩
abbrev S4x4096x8192 : Shape := ⟨3, ![4, 4096, 8192]⟩
abbrev S4x4096x16x512 : Shape := ⟨4, ![4, 4096, 16, 512]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S1x4096x1x128 : Shape := ⟨4, ![1, 4096, 1, 128]⟩
abbrev S4x4096x16x128 : Shape := ⟨4, ![4, 4096, 16, 128]⟩
abbrev S4x32x128x16x256 : Shape := ⟨5, ![4, 32, 128, 16, 256]⟩
abbrev S32x4x16x128x256 : Shape := ⟨5, ![32, 4, 16, 128, 256]⟩
abbrev S4x32x128x16x512 : Shape := ⟨5, ![4, 32, 128, 16, 512]⟩
abbrev S32x4x16x128x512 : Shape := ⟨5, ![32, 4, 16, 128, 512]⟩
abbrev S16 : Shape := ⟨1, ![16]⟩
abbrev S128x1 : Shape := ⟨2, ![128, 1]⟩
abbrev S128x128 : Shape := ⟨2, ![128, 128]⟩
abbrev S1x128x128 : Shape := ⟨3, ![1, 128, 128]⟩
abbrev S16x1x1 : Shape := ⟨3, ![16, 1, 1]⟩
abbrev S16x128x128 : Shape := ⟨3, ![16, 128, 128]⟩
abbrev S16x1 : Shape := ⟨2, ![16, 1]⟩
abbrev S16x128 : Shape := ⟨2, ![16, 128]⟩
abbrev S4x16x256x512 : Shape := ⟨4, ![4, 16, 256, 512]⟩
abbrev S1x4x16x128x256 : Shape := ⟨5, ![1, 4, 16, 128, 256]⟩
abbrev S4x16x128x256 : Shape := ⟨4, ![4, 16, 128, 256]⟩
abbrev S1x4x16x128x512 : Shape := ⟨5, ![1, 4, 16, 128, 512]⟩
abbrev S4x16x128x512 : Shape := ⟨4, ![4, 16, 128, 512]⟩
abbrev S4x16x128x128 : Shape := ⟨4, ![4, 16, 128, 128]⟩
abbrev S1x16x128x128 : Shape := ⟨4, ![1, 16, 128, 128]⟩
abbrev S1x16x128x1 : Shape := ⟨4, ![1, 16, 128, 1]⟩
abbrev S1x16x1x1 : Shape := ⟨4, ![1, 16, 1, 1]⟩
abbrev S4x4096x16 : Shape := ⟨3, ![4, 4096, 16]⟩
abbrev S4x4096x16x1 : Shape := ⟨4, ![4, 4096, 16, 1]⟩
abbrev S1x1x16x512 : Shape := ⟨4, ![1, 1, 16, 512]⟩
abbrev S16384x8192 : Shape := ⟨2, ![16384, 8192]⟩

abbrev nBuf : Space → Nat
  | .hbm => 249
  | .vmem => 0
  | .smem => 0
  | _ => 0

abbrev hbmTy0_0 (i : Nat) : BufTy := match i % 128 with
  | 0 => ⟨S16384x24576, .bf16⟩
  | 1 => ⟨S16x512, .f32⟩
  | 2 => ⟨S16384x24576, .f32⟩
  | 3 => ⟨S4x4096x24576, .f32⟩
  | 4 => ⟨S4x4096x4096, .f32⟩
  | 5 => ⟨S4x4096x16x256, .f32⟩
  | 6 => ⟨S4x4096x4096, .f32⟩
  | 7 => ⟨S4x4096x16x256, .f32⟩
  | 8 => ⟨S4x4096x8192, .f32⟩
  | 9 => ⟨S4x4096x16x512, .f32⟩
  | 10 => ⟨S128, .f32⟩
  | 11 => ⟨S_, .f32⟩
  | 12 => ⟨S128, .f32⟩
  | 13 => ⟨S128, .f32⟩
  | 14 => ⟨S_, .f32⟩
  | 15 => ⟨S128, .f32⟩
  | 16 => ⟨S128, .f32⟩
  | 17 => ⟨S_, .f32⟩
  | 18 => ⟨S128, .f32⟩
  | 19 => ⟨S128, .f32⟩
  | 20 => ⟨S_, .f32⟩
  | 21 => ⟨S128, .f32⟩
  | 22 => ⟨S128, .f32⟩
  | 23 => ⟨S_, .f32⟩
  | 24 => ⟨S128, .f32⟩
  | 25 => ⟨S128, .f32⟩
  | 26 => ⟨S4096, .f32⟩
  | 27 => ⟨S4096x1, .f32⟩
  | 28 => ⟨S1x128, .f32⟩
  | 29 => ⟨S4096x128, .f32⟩
  | 30 => ⟨S4096x128, .f32⟩
  | 31 => ⟨S4096x128, .f32⟩
  | 32 => ⟨S4096x128, .f32⟩
  | 33 => ⟨S1x4096x1x128, .f32⟩
  | 34 => ⟨S4096x128, .f32⟩
  | 35 => ⟨S1x4096x1x128, .f32⟩
  | 36 => ⟨S4x4096x16x128, .f32⟩
  | 37 => ⟨S4x4096x16x128, .f32⟩
  | 38 => ⟨S4x4096x16x128, .f32⟩
  | 39 => ⟨S4x4096x16x128, .f32⟩
  | 40 => ⟨S4x4096x16x128, .f32⟩
  | 41 => ⟨S4x4096x16x128, .f32⟩
  | 42 => ⟨S4x4096x16x128, .f32⟩
  | 43 => ⟨S4x4096x16x128, .f32⟩
  | 44 => ⟨S4x4096x16x128, .f32⟩
  | 45 => ⟨S4x4096x16x128, .f32⟩
  | 46 => ⟨S4x4096x16x128, .f32⟩
  | 47 => ⟨S4x4096x16x128, .f32⟩
  | 48 => ⟨S4x4096x16x256, .f32⟩
  | 49 => ⟨S128, .f32⟩
  | 50 => ⟨S_, .f32⟩
  | 51 => ⟨S128, .f32⟩
  | 52 => ⟨S128, .f32⟩
  | 53 => ⟨S_, .f32⟩
  | 54 => ⟨S128, .f32⟩
  | 55 => ⟨S128, .f32⟩
  | 56 => ⟨S_, .f32⟩
  | 57 => ⟨S128, .f32⟩
  | 58 => ⟨S128, .f32⟩
  | 59 => ⟨S_, .f32⟩
  | 60 => ⟨S128, .f32⟩
  | 61 => ⟨S128, .f32⟩
  | 62 => ⟨S_, .f32⟩
  | 63 => ⟨S128, .f32⟩
  | 64 => ⟨S128, .f32⟩
  | 65 => ⟨S4096, .f32⟩
  | 66 => ⟨S4096x1, .f32⟩
  | 67 => ⟨S1x128, .f32⟩
  | 68 => ⟨S4096x128, .f32⟩
  | 69 => ⟨S4096x128, .f32⟩
  | 70 => ⟨S4096x128, .f32⟩
  | 71 => ⟨S4096x128, .f32⟩
  | 72 => ⟨S1x4096x1x128, .f32⟩
  | 73 => ⟨S4096x128, .f32⟩
  | 74 => ⟨S1x4096x1x128, .f32⟩
  | 75 => ⟨S4x4096x16x128, .f32⟩
  | 76 => ⟨S4x4096x16x128, .f32⟩
  | 77 => ⟨S4x4096x16x128, .f32⟩
  | 78 => ⟨S4x4096x16x128, .f32⟩
  | 79 => ⟨S4x4096x16x128, .f32⟩
  | 80 => ⟨S4x4096x16x128, .f32⟩
  | 81 => ⟨S4x4096x16x128, .f32⟩
  | 82 => ⟨S4x4096x16x128, .f32⟩
  | 83 => ⟨S4x4096x16x128, .f32⟩
  | 84 => ⟨S4x4096x16x128, .f32⟩
  | 85 => ⟨S4x4096x16x128, .f32⟩
  | 86 => ⟨S4x4096x16x128, .f32⟩
  | 87 => ⟨S4x4096x16x256, .f32⟩
  | 88 => ⟨S_, .f32⟩
  | 89 => ⟨S4x4096x16x256, .f32⟩
  | 90 => ⟨S4x4096x16x256, .f32⟩
  | 91 => ⟨S4x32x128x16x256, .f32⟩
  | 92 => ⟨S32x4x16x128x256, .f32⟩
  | 93 => ⟨S4x32x128x16x256, .f32⟩
  | 94 => ⟨S32x4x16x128x256, .f32⟩
  | 95 => ⟨S4x32x128x16x512, .f32⟩
  | 96 => ⟨S32x4x16x128x512, .f32⟩
  | 97 => ⟨S16, .f32⟩
  | 98 => ⟨S_, .f32⟩
  | 99 => ⟨S16, .f32⟩
  | 100 => ⟨S16, .f32⟩
  | 101 => ⟨S_, .f32⟩
  | 102 => ⟨S16, .f32⟩
  | 103 => ⟨S16, .f32⟩
  | 104 => ⟨S16, .f32⟩
  | 105 => ⟨S16, .f32⟩
  | 106 => ⟨S16, .f32⟩
  | 107 => ⟨S128, .f32⟩
  | 108 => ⟨S128x1, .f32⟩
  | 109 => ⟨S1x128, .f32⟩
  | 110 => ⟨S128x128, .f32⟩
  | 111 => ⟨S128x128, .f32⟩
  | 112 => ⟨S128x128, .f32⟩
  | 113 => ⟨S_, .f32⟩
  | 114 => ⟨S128x128, .f32⟩
  | 115 => ⟨S128x128, .i1⟩
  | 116 => ⟨S1x128x128, .i1⟩
  | 117 => ⟨S_, .f32⟩
  | 118 => ⟨S_, .f32⟩
  | 119 => ⟨S128x128, .f32⟩
  | 120 => ⟨S128x128, .f32⟩
  | 121 => ⟨S1x128x128, .f32⟩
  | 122 => ⟨S16x1x1, .f32⟩
  | 123 => ⟨S16x128x128, .f32⟩
  | 124 => ⟨S16x128x128, .f32⟩
  | 125 => ⟨S16x128x128, .f32⟩
  | 126 => ⟨S16x128x128, .f32⟩
  | 127 => ⟨S_, .f32⟩
  | _ => ⟨S16384x24576, .bf16⟩

abbrev hbmTy0_1 (i : Nat) : BufTy := match i % 128 with
  | 0 => ⟨S_, .f32⟩
  | 1 => ⟨S16x128x128, .i1⟩
  | 2 => ⟨S16x128x128, .f32⟩
  | 3 => ⟨S16x128x128, .f32⟩
  | 4 => ⟨S1x128, .f32⟩
  | 5 => ⟨S_, .f32⟩
  | 6 => ⟨S1x128, .f32⟩
  | 7 => ⟨S1x128, .f32⟩
  | 8 => ⟨S16x1, .f32⟩
  | 9 => ⟨S16x128, .f32⟩
  | 10 => ⟨S16x128, .f32⟩
  | 11 => ⟨S16x128, .f32⟩
  | 12 => ⟨S16x128, .f32⟩
  | 13 => ⟨S1x128, .f32⟩
  | 14 => ⟨S_, .f32⟩
  | 15 => ⟨S1x128, .f32⟩
  | 16 => ⟨S1x128, .f32⟩
  | 17 => ⟨S16x1, .f32⟩
  | 18 => ⟨S16x128, .f32⟩
  | 19 => ⟨S16x128, .f32⟩
  | 20 => ⟨S16x128, .f32⟩
  | 21 => ⟨S16x128, .f32⟩
  | 22 => ⟨S_, .f32⟩
  | 23 => ⟨S16, .f32⟩
  | 24 => ⟨S16, .f32⟩
  | 25 => ⟨S16, .f32⟩
  | 26 => ⟨S_, .f32⟩
  | 27 => ⟨S4x16x256x512, .f32⟩
  | 28 => ⟨S_, .f32⟩
  | 29 => ⟨S32x4x16x128x512, .f32⟩
  | 30 => ⟨S_, .i32⟩
  | 31 => ⟨S32x4x16x128x256, .f32⟩
  | 32 => ⟨S32x4x16x128x256, .f32⟩
  | 33 => ⟨S32x4x16x128x512, .f32⟩
  | 34 => ⟨S16x128x128, .f32⟩
  | 35 => ⟨S16x128, .f32⟩
  | 36 => ⟨S16, .f32⟩
  | 37 => ⟨S16x128, .f32⟩
  | 38 => ⟨S_, .i32⟩
  | 39 => ⟨S4x16x256x512, .f32⟩
  | 40 => ⟨S32x4x16x128x512, .f32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S1x4x16x128x256, .f32⟩
  | 48 => ⟨S4x16x128x256, .f32⟩
  | 49 => ⟨S_, .i32⟩
  | 50 => ⟨S_, .i32⟩
  | 51 => ⟨S_, .i32⟩
  | 52 => ⟨S_, .i32⟩
  | 53 => ⟨S1x4x16x128x256, .f32⟩
  | 54 => ⟨S4x16x128x256, .f32⟩
  | 55 => ⟨S_, .i32⟩
  | 56 => ⟨S_, .i32⟩
  | 57 => ⟨S_, .i32⟩
  | 58 => ⟨S_, .i32⟩
  | 59 => ⟨S1x4x16x128x512, .f32⟩
  | 60 => ⟨S4x16x128x512, .f32⟩
  | 61 => ⟨S4x16x128x128, .f32⟩
  | 62 => ⟨S1x16x128x128, .f32⟩
  | 63 => ⟨S4x16x128x128, .f32⟩
  | 64 => ⟨S4x16x128x128, .f32⟩
  | 65 => ⟨S4x16x128x512, .f32⟩
  | 66 => ⟨S4x16x128x512, .f32⟩
  | 67 => ⟨S1x16x128x1, .f32⟩
  | 68 => ⟨S4x16x128x512, .f32⟩
  | 69 => ⟨S4x16x128x512, .f32⟩
  | 70 => ⟨S4x16x128x512, .f32⟩
  | 71 => ⟨S1x16x1x1, .f32⟩
  | 72 => ⟨S4x16x256x512, .f32⟩
  | 73 => ⟨S4x16x256x512, .f32⟩
  | 74 => ⟨S1x16x128x1, .f32⟩
  | 75 => ⟨S4x16x128x256, .f32⟩
  | 76 => ⟨S4x16x128x256, .f32⟩
  | 77 => ⟨S4x16x256x512, .f32⟩
  | 78 => ⟨S4x16x256x512, .f32⟩
  | 79 => ⟨S1x4x16x128x512, .f32⟩
  | 80 => ⟨S_, .i32⟩
  | 81 => ⟨S_, .i32⟩
  | 82 => ⟨S_, .i32⟩
  | 83 => ⟨S_, .i32⟩
  | 84 => ⟨S32x4x16x128x512, .f32⟩
  | 85 => ⟨S_, .i32⟩
  | 86 => ⟨S_, .i32⟩
  | 87 => ⟨S4x32x128x16x512, .f32⟩
  | 88 => ⟨S4x4096x16x512, .f32⟩
  | 89 => ⟨S4x4096x16x512, .f32⟩
  | 90 => ⟨S_, .f32⟩
  | 91 => ⟨S4x4096x16, .f32⟩
  | 92 => ⟨S4x4096x16x1, .f32⟩
  | 93 => ⟨S_, .f32⟩
  | 94 => ⟨S4x4096x16x1, .f32⟩
  | 95 => ⟨S4x4096x16x1, .f32⟩
  | 96 => ⟨S_, .f32⟩
  | 97 => ⟨S4x4096x16x1, .f32⟩
  | 98 => ⟨S4x4096x16x1, .f32⟩
  | 99 => ⟨S4x4096x16x1, .f32⟩
  | 100 => ⟨S4x4096x16x512, .f32⟩
  | 101 => ⟨S4x4096x16x512, .f32⟩
  | 102 => ⟨S1x1x16x512, .f32⟩
  | 103 => ⟨S4x4096x16x512, .f32⟩
  | 104 => ⟨S4x4096x16x512, .f32⟩
  | 105 => ⟨S4x4096x8192, .f32⟩
  | 106 => ⟨S16384x24576, .f32⟩
  | 107 => ⟨S4x4096x24576, .f32⟩
  | 108 => ⟨S4x4096x8192, .f32⟩
  | 109 => ⟨S4x4096x8192, .f32⟩
  | 110 => ⟨S4x4096x8192, .f32⟩
  | 111 => ⟨S_, .f32⟩
  | 112 => ⟨S4x4096x8192, .f32⟩
  | 113 => ⟨S4x4096x8192, .f32⟩
  | 114 => ⟨S_, .f32⟩
  | 115 => ⟨S4x4096x8192, .f32⟩
  | 116 => ⟨S4x4096x8192, .f32⟩
  | 117 => ⟨S4x4096x8192, .f32⟩
  | 118 => ⟨S4x4096x8192, .f32⟩
  | 119 => ⟨S16384x8192, .f32⟩
  | 120 => ⟨S16384x8192, .bf16⟩
  | _ => ⟨S16384x24576, .bf16⟩

abbrev hbmTy (i : Nat) : BufTy := match i / 128 with
  | 0 => hbmTy0_0 i
  | 1 => hbmTy0_1 i
  | _ => ⟨S16384x24576, .bf16⟩

abbrev bufTy : (tb : Table) → Fin (tcTables nBuf tb) → BufTy
  | .hbm, ⟨i, _⟩ => hbmTy i
  | _, _ => ⟨S16384x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_4 : Ref sig .tc := ⟨.hbm, 50, rfl⟩
abbrev main_v43 : Ref sig .tc := ⟨.hbm, 51, rfl⟩
abbrev main_v44 : Ref sig .tc := ⟨.hbm, 52, rfl⟩
abbrev main_cst_5 : Ref sig .tc := ⟨.hbm, 53, rfl⟩
abbrev main_v45 : Ref sig .tc := ⟨.hbm, 54, rfl⟩
abbrev main_v46 : Ref sig .tc := ⟨.hbm, 55, rfl⟩
abbrev main_cst_6 : Ref sig .tc := ⟨.hbm, 56, rfl⟩
abbrev main_v47 : Ref sig .tc := ⟨.hbm, 57, rfl⟩
abbrev main_v48 : Ref sig .tc := ⟨.hbm, 58, rfl⟩
abbrev main_cst_7 : Ref sig .tc := ⟨.hbm, 59, rfl⟩
abbrev main_v49 : Ref sig .tc := ⟨.hbm, 60, rfl⟩
abbrev main_v50 : Ref sig .tc := ⟨.hbm, 61, rfl⟩
abbrev main_cst_8 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_9 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_cst_10 : Ref sig .tc := ⟨.hbm, 98, rfl⟩
abbrev main_v85 : Ref sig .tc := ⟨.hbm, 99, rfl⟩
abbrev main_v86 : Ref sig .tc := ⟨.hbm, 100, rfl⟩
abbrev main_cst_11 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_cst_12 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_cst_13 : Ref sig .tc := ⟨.hbm, 117, rfl⟩
abbrev main_call0_v0 : Ref sig .tc := ⟨.hbm, 118, rfl⟩
abbrev main_call0_v1 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_cst_14 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_v108 : Ref sig .tc := ⟨.hbm, 131, rfl⟩
abbrev main_v109 : Ref sig .tc := ⟨.hbm, 132, rfl⟩
abbrev main_cst_15 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_16 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_cst_17 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_cst_18 : Ref sig .tc := ⟨.hbm, 154, rfl⟩
abbrev main_v128 : Ref sig .tc := ⟨.hbm, 155, rfl⟩
abbrev main_cst_19 : Ref sig .tc := ⟨.hbm, 156, rfl⟩
abbrev main_v129 : Ref sig .tc := ⟨.hbm, 157, rfl⟩
abbrev main_c : Ref sig .tc := ⟨.hbm, 158, rfl⟩
abbrev main_v130_0 : Ref sig .tc := ⟨.hbm, 159, rfl⟩
abbrev main_v130_1 : Ref sig .tc := ⟨.hbm, 160, rfl⟩
abbrev main_v130_2 : Ref sig .tc := ⟨.hbm, 161, rfl⟩
abbrev main_v130_3 : Ref sig .tc := ⟨.hbm, 162, rfl⟩
abbrev main_v130_4 : Ref sig .tc := ⟨.hbm, 163, rfl⟩
abbrev main_v130_5 : Ref sig .tc := ⟨.hbm, 164, rfl⟩
abbrev main_v130_6 : Ref sig .tc := ⟨.hbm, 165, rfl⟩
abbrev main_v130_7 : Ref sig .tc := ⟨.hbm, 166, rfl⟩
abbrev main_v130_8 : Ref sig .tc := ⟨.hbm, 167, rfl⟩
abbrev main_v130_9 : Ref sig .tc := ⟨.hbm, 168, rfl⟩
abbrev main_while0c_c_32 : Ref sig .tc := ⟨.hbm, 169, rfl⟩
abbrev main_while0c_v154 : Ref sig .tc := ⟨.hbm, 170, rfl⟩
abbrev main_while0b_call2_c : Ref sig .tc := ⟨.hbm, 171, rfl⟩
abbrev main_while0b_call2_c_0 : Ref sig .tc := ⟨.hbm, 172, rfl⟩
abbrev main_while0b_call2_c_1 : Ref sig .tc := ⟨.hbm, 173, rfl⟩
abbrev main_while0b_call2_c_2 : Ref sig .tc := ⟨.hbm, 174, rfl⟩
abbrev main_while0b_call2_v0 : Ref sig .tc := ⟨.hbm, 175, rfl⟩
abbrev main_while0b_v154 : Ref sig .tc := ⟨.hbm, 176, rfl⟩
abbrev main_while0b_call3_c : Ref sig .tc := ⟨.hbm, 177, rfl⟩
abbrev main_while0b_call3_c_0 : Ref sig .tc := ⟨.hbm, 178, rfl⟩
abbrev main_while0b_call3_c_1 : Ref sig .tc := ⟨.hbm, 179, rfl⟩
abbrev main_while0b_call3_c_2 : Ref sig .tc := ⟨.hbm, 180, rfl⟩
abbrev main_while0b_call3_v0 : Ref sig .tc := ⟨.hbm, 181, rfl⟩
abbrev main_while0b_v155 : Ref sig .tc := ⟨.hbm, 182, rfl⟩
abbrev main_while0b_call4_c : Ref sig .tc := ⟨.hbm, 183, rfl⟩
abbrev main_while0b_call4_c_0 : Ref sig .tc := ⟨.hbm, 184, rfl⟩
abbrev main_while0b_call4_c_1 : Ref sig .tc := ⟨.hbm, 185, rfl⟩
abbrev main_while0b_call4_c_2 : Ref sig .tc := ⟨.hbm, 186, rfl⟩
abbrev main_while0b_call4_v0 : Ref sig .tc := ⟨.hbm, 187, rfl⟩
abbrev main_while0b_v156 : Ref sig .tc := ⟨.hbm, 188, rfl⟩
abbrev main_while0b_v157 : Ref sig .tc := ⟨.hbm, 189, rfl⟩
abbrev main_while0b_v158 : Ref sig .tc := ⟨.hbm, 190, rfl⟩
abbrev main_while0b_v159 : Ref sig .tc := ⟨.hbm, 191, rfl⟩
abbrev main_while0b_v160 : Ref sig .tc := ⟨.hbm, 192, rfl⟩
abbrev main_while0b_v161 : Ref sig .tc := ⟨.hbm, 193, rfl⟩
abbrev main_while0b_v162 : Ref sig .tc := ⟨.hbm, 194, rfl⟩
abbrev main_while0b_v163 : Ref sig .tc := ⟨.hbm, 195, rfl⟩
abbrev main_while0b_v164 : Ref sig .tc := ⟨.hbm, 196, rfl⟩
abbrev main_while0b_v165 : Ref sig .tc := ⟨.hbm, 197, rfl⟩
abbrev main_while0b_v166 : Ref sig .tc := ⟨.hbm, 198, rfl⟩
abbrev main_while0b_v167 : Ref sig .tc := ⟨.hbm, 199, rfl⟩
abbrev main_while0b_v168 : Ref sig .tc := ⟨.hbm, 200, rfl⟩
abbrev main_while0b_v169 : Ref sig .tc := ⟨.hbm, 201, rfl⟩
abbrev main_while0b_v170 : Ref sig .tc := ⟨.hbm, 202, rfl⟩
abbrev main_while0b_v171 : Ref sig .tc := ⟨.hbm, 203, rfl⟩
abbrev main_while0b_v172 : Ref sig .tc := ⟨.hbm, 204, rfl⟩
abbrev main_while0b_v173 : Ref sig .tc := ⟨.hbm, 205, rfl⟩
abbrev main_while0b_v174 : Ref sig .tc := ⟨.hbm, 206, rfl⟩
abbrev main_while0b_call5_v0 : Ref sig .tc := ⟨.hbm, 207, rfl⟩
abbrev main_while0b_call5_c : Ref sig .tc := ⟨.hbm, 208, rfl⟩
abbrev main_while0b_call5_c_0 : Ref sig .tc := ⟨.hbm, 209, rfl⟩
abbrev main_while0b_call5_c_1 : Ref sig .tc := ⟨.hbm, 210, rfl⟩
abbrev main_while0b_call5_c_2 : Ref sig .tc := ⟨.hbm, 211, rfl⟩
abbrev main_while0b_v175 : Ref sig .tc := ⟨.hbm, 212, rfl⟩
abbrev main_while0b_c_32 : Ref sig .tc := ⟨.hbm, 213, rfl⟩
abbrev main_while0b_v176 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_cst_20 : Ref sig .tc := ⟨.hbm, 218, rfl⟩
abbrev main_v134 : Ref sig .tc := ⟨.hbm, 219, rfl⟩
abbrev main_v135 : Ref sig .tc := ⟨.hbm, 220, rfl⟩
abbrev main_cst_21 : Ref sig .tc := ⟨.hbm, 221, rfl⟩
abbrev main_v136 : Ref sig .tc := ⟨.hbm, 222, rfl⟩
abbrev main_v137 : Ref sig .tc := ⟨.hbm, 223, rfl⟩
abbrev main_cst_22 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_call6_v0 : Ref sig .tc := ⟨.hbm, 237, rfl⟩
abbrev main_call6_v1 : Ref sig .tc := ⟨.hbm, 238, rfl⟩
abbrev main_call6_cst : Ref sig .tc := ⟨.hbm, 239, rfl⟩
abbrev main_call6_v2 : Ref sig .tc := ⟨.hbm, 240, rfl⟩
abbrev main_call6_v3 : Ref sig .tc := ⟨.hbm, 241, rfl⟩
abbrev main_call6_cst_0 : Ref sig .tc := ⟨.hbm, 242, rfl⟩
abbrev main_call6_v4 : Ref sig .tc := ⟨.hbm, 243, rfl⟩
abbrev main_call6_v5 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩

abbrev nD : Nat := 1
abbrev τ : Topo := Topo.v7x

variable {F : FTy → Type} [FloatOps F]

abbrev main_while0_count : Scf.Loop 32 := ⟨0#32, 32#32, 1#32⟩
-- ==== InProj.lean ====
abbrev S16384x4096 : Shape := ⟨2, ![16384, 4096]⟩
abbrev S4096x24576 : Shape := ⟨2, ![4096, 24576]⟩
abbrev S2x16384x4096 : Shape := ⟨3, ![2, 16384, 4096]⟩
abbrev S4096x8192 : Shape := ⟨2, ![4096, 8192]⟩
abbrev S2x4096x2048 : Shape := ⟨3, ![2, 4096, 2048]⟩
abbrev S1x8192x4096 : Shape := ⟨3, ![1, 8192, 4096]⟩
abbrev S1x4096x4096 : Shape := ⟨3, ![1, 4096, 4096]⟩
abbrev S1x4096x8192 : Shape := ⟨3, ![1, 4096, 8192]⟩
abbrev S16384x24576 : Shape := ⟨2, ![16384, 24576]⟩
abbrev S4096x2048 : Shape := ⟨2, ![4096, 2048]⟩
abbrev S8192x4096 : Shape := ⟨2, ![8192, 4096]⟩
abbrev S4096x4096 : Shape := ⟨2, ![4096, 4096]⟩
abbrev S1024x4096 : Shape := ⟨2, ![1024, 4096]⟩
abbrev S4096x1024 : Shape := ⟨2, ![4096, 1024]⟩
abbrev S1x64x4096 : Shape := ⟨3, ![1, 64, 4096]⟩
abbrev S1x16x8192 : Shape := ⟨3, ![1, 16, 8192]⟩
abbrev S1x16x2048 : Shape := ⟨3, ![1, 16, 2048]⟩
abbrev S1x32x4096 : Shape := ⟨3, ![1, 32, 4096]⟩
abbrev S1x16x4096 : Shape := ⟨3, ![1, 16, 4096]⟩
abbrev S1024x1024 : Shape := ⟨2, ![1024, 1024]⟩
abbrev S64x4096 : Shape := ⟨2, ![64, 4096]⟩
abbrev S16x8192 : Shape := ⟨2, ![16, 8192]⟩
abbrev S16x2048 : Shape := ⟨2, ![16, 2048]⟩
abbrev S32x4096 : Shape := ⟨2, ![32, 4096]⟩
abbrev S16x4096 : Shape := ⟨2, ![16, 4096]⟩

abbrev nBuf : Space → Nat
  | .hbm => 19
  | .vmem => 38
  | .smem => 0
  | _ => 0

abbrev bufTy : (tb : Table) → Fin (tcTables nBuf tb) → BufTy
  | .hbm, ⟨0, _⟩ => ⟨S16384x4096, .bf16⟩
  | .hbm, ⟨1, _⟩ => ⟨S4096x24576, .bf16⟩
  | .hbm, ⟨2, _⟩ => ⟨S2x16384x4096, .f32⟩
  | .hbm, ⟨3, _⟩ => ⟨S2x16384x4096, .f32⟩
  | .hbm, ⟨4, _⟩ => ⟨S4096x8192, .f32⟩
  | .hbm, ⟨5, _⟩ => ⟨S2x4096x2048, .f32⟩
  | .hbm, ⟨6, _⟩ => ⟨S1x8192x4096, .f32⟩
  | .hbm, ⟨7, _⟩ => ⟨S1x4096x4096, .f32⟩
  | .hbm, ⟨8, _⟩ => ⟨S1x4096x4096, .f32⟩
  | .hbm, ⟨9, _⟩ => ⟨S1x4096x8192, .f32⟩
  | .hbm, ⟨10, _⟩ => ⟨S16384x24576, .bf16⟩
  | .hbm, ⟨11, _⟩ => ⟨S16384x4096, .bf16⟩
  | .hbm, ⟨12, _⟩ => ⟨S16384x4096, .bf16⟩
  | .hbm, ⟨13, _⟩ => ⟨S4096x8192, .bf16⟩
  | .hbm, ⟨14, _⟩ => ⟨S4096x2048, .bf16⟩
  | .hbm, ⟨15, _⟩ => ⟨S4096x2048, .bf16⟩
  | .hbm, ⟨16, _⟩ => ⟨S8192x4096, .bf16⟩
  | .hbm, ⟨17, _⟩ => ⟨S4096x4096, .bf16⟩
  | .hbm, ⟨18, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x64x4096, .f32⟩
  | .local _ .vmem, ⟨5, _⟩ => ⟨S1x64x4096, .f32⟩
  | .local _ .vmem, ⟨6, _⟩ => ⟨S1x64x4096, .f32⟩
  | .local _ .vmem, ⟨7, _⟩ => ⟨S1x64x4096, .f32⟩
  | .local _ .vmem, ⟨8, _⟩ => ⟨S1x16x8192, .f32⟩
  | .local _ .vmem, ⟨9, _⟩ => ⟨S1x16x8192, .f32⟩
  | .local _ .vmem, ⟨10, _⟩ => ⟨S1x16x2048, .f32⟩
  | .local _ .vmem, ⟨11, _⟩ => ⟨S1x16x2048, .f32⟩
  | .local _ .vmem, ⟨12, _⟩ => ⟨S1x16x2048, .f32⟩
  | .local _ .vmem, ⟨13, _⟩ => ⟨S1x16x2048, .f32⟩
  | .local _ .vmem, ⟨14, _⟩ => ⟨S1x32x4096, .f32⟩
  | .local _ .vmem, ⟨15, _⟩ => ⟨S1x32x4096, .f32⟩
  | .local _ .vmem, ⟨16, _⟩ => ⟨S1x16x4096, .f32⟩
  | .local _ .vmem, ⟨17, _⟩ => ⟨S1x16x4096, .f32⟩
  | .local _ .vmem, ⟨18, _⟩ => ⟨S1x16x4096, .f32⟩
  | .local _ .vmem, ⟨19, _⟩ => ⟨S1x16x4096, .f32⟩
  | .local _ .vmem, ⟨20, _⟩ => ⟨S1024x1024, .bf16⟩
  | .local _ .vmem, ⟨21, _⟩ => ⟨S1024x1024, .bf16⟩
  | .local _ .vmem, ⟨22, _⟩ => ⟨S64x4096, .bf16⟩
  | .local _ .vmem, ⟨23, _⟩ => ⟨S64x4096, .bf16⟩
  | .local _ .vmem, ⟨24, _⟩ => ⟨S64x4096, .bf16⟩
  | .local _ .vmem, ⟨25, _⟩ => ⟨S64x4096, .bf16⟩
  | .local _ .vmem, ⟨26, _⟩ => ⟨S16x8192, .bf16⟩
  | .local _ .vmem, ⟨27, _⟩ => ⟨S16x8192, .bf16⟩
  | .local _ .vmem, ⟨28, _⟩ => ⟨S16x2048, .bf16⟩
  | .local _ .vmem, ⟨29, _⟩ => ⟨S16x2048, .bf16⟩
  | .local _ .vmem, ⟨30, _⟩ => ⟨S16x2048, .bf16⟩
  | .local _ .vmem, ⟨31, _⟩ => ⟨S16x2048, .bf16⟩
  | .local _ .vmem, ⟨32, _⟩ => ⟨S32x4096, .bf16⟩
  | .local _ .vmem, ⟨33, _⟩ => ⟨S32x4096, .bf16⟩
  | .local _ .vmem, ⟨34, _⟩ => ⟨S16x4096, .bf16⟩
  | .local _ .vmem, ⟨35, _⟩ => ⟨S16x4096, .bf16⟩
  | .local _ .vmem, ⟨36, _⟩ => ⟨S16x4096, .bf16⟩
  | .local _ .vmem, ⟨37, _⟩ => ⟨S16x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev main_v1_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨3, ![16, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  let c0_i32_1 : BitVec 32 := 0#32
  ![c0_i32.toNat, v4.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  let c0_i32_1 : BitVec 32 := 0#32
  ![c0_i32.toNat, v4.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  let c0_i32_1 : BitVec 32 := 0#32
  ![c0_i32.toNat, v4.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  let c0_i32_1 : BitVec 32 := 0#32
  ![c0_i32.toNat, v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c1_i32_0 : BitVec 32 := 1#32
  let c0_i32 : BitVec 32 := 0#32
  let c0_i32_1 : BitVec 32 := 0#32
  ![c1_i32_0.toNat, v4.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  let c0_i32_1 : BitVec 32 := 0#32
  ![c0_i32.toNat, v4.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  let c0_i32_1 : BitVec 32 := 0#32
  ![c0_i32.toNat, v4.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  let c0_i32_1 : BitVec 32 := 0#32
  ![c0_i32.toNat, v4.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  ![v4.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x16x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x16x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x16x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S64x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S64x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S16x8192 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S16x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S16x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S32x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S16x4096 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 2 → Memref sig .tc .vmem S16x4096 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]
-- ==== InProjRefIdeal.lean ====
abbrev S16384x4096 : Shape := ⟨2, ![16384, 4096]⟩
abbrev S4096x24576 : Shape := ⟨2, ![4096, 24576]⟩
abbrev S2x16384x4096 : Shape := ⟨3, ![2, 16384, 4096]⟩
abbrev S4096x8192 : Shape := ⟨2, ![4096, 8192]⟩
abbrev S2x4096x2048 : Shape := ⟨3, ![2, 4096, 2048]⟩
abbrev S1x8192x4096 : Shape := ⟨3, ![1, 8192, 4096]⟩
abbrev S1x4096x4096 : Shape := ⟨3, ![1, 4096, 4096]⟩
abbrev S16384x24576 : Shape := ⟨2, ![16384, 24576]⟩
abbrev S1x16384x4096 : Shape := ⟨3, ![1, 16384, 4096]⟩
abbrev S1x4096x2048 : Shape := ⟨3, ![1, 4096, 2048]⟩
abbrev S4096x2048 : Shape := ⟨2, ![4096, 2048]⟩
abbrev S8192x4096 : Shape := ⟨2, ![8192, 4096]⟩
abbrev S4096x4096 : Shape := ⟨2, ![4096, 4096]⟩

abbrev nBuf : Space → Nat
  | .hbm => 30
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x24576, .bf16⟩
  | .hbm, ⟨2, _⟩ => ⟨S2x16384x4096, .f32⟩
  | .hbm, ⟨3, _⟩ => ⟨S2x16384x4096, .f32⟩
  | .hbm, ⟨4, _⟩ => ⟨S4096x8192, .f32⟩
  | .hbm, ⟨5, _⟩ => ⟨S2x4096x2048, .f32⟩
  | .hbm, ⟨6, _⟩ => ⟨S1x8192x4096, .f32⟩
  | .hbm, ⟨7, _⟩ => ⟨S1x4096x4096, .f32⟩
  | .hbm, ⟨8, _⟩ => ⟨S1x4096x4096, .f32⟩
  | .hbm, ⟨9, _⟩ => ⟨S16384x24576, .f32⟩
  | .hbm, ⟨10, _⟩ => ⟨S16384x24576, .bf16⟩
  | .hbm, ⟨11, _⟩ => ⟨S1x16384x4096, .f32⟩
  | .hbm, ⟨12, _⟩ => ⟨S16384x4096, .f32⟩
  | .hbm, ⟨13, _⟩ => ⟨S1x16384x4096, .f32⟩
  | .hbm, ⟨14, _⟩ => ⟨S16384x4096, .f32⟩
  | .hbm, ⟨15, _⟩ => ⟨S1x4096x2048, .f32⟩
  | .hbm, ⟨16, _⟩ => ⟨S4096x2048, .f32⟩
  | .hbm, ⟨17, _⟩ => ⟨S1x4096x2048, .f32⟩
  | .hbm, ⟨18, _⟩ => ⟨S4096x2048, .f32⟩
  | .hbm, ⟨19, _⟩ => ⟨S8192x4096, .f32⟩
  | .hbm, ⟨20, _⟩ => ⟨S4096x4096, .f32⟩
  | .hbm, ⟨21, _⟩ => ⟨S4096x4096, .f32⟩
  | .hbm, ⟨22, _⟩ => ⟨S16384x4096, .bf16⟩
  | .hbm, ⟨23, _⟩ => ⟨S16384x4096, .bf16⟩
  | .hbm, ⟨24, _⟩ => ⟨S4096x8192, .bf16⟩
  | .hbm, ⟨25, _⟩ => ⟨S4096x2048, .bf16⟩
  | .hbm, ⟨26, _⟩ => ⟨S4096x2048, .bf16⟩
  | .hbm, ⟨27, _⟩ => ⟨S8192x4096, .bf16⟩
  | .hbm, ⟨28, _⟩ => ⟨S4096x4096, .bf16⟩
  | .hbm, ⟨29, _⟩ => ⟨S4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== OutProj.lean ====
abbrev S16384x8192 : Shape := ⟨2, ![16384, 8192]⟩
abbrev S8192x4096 : Shape := ⟨2, ![8192, 4096]⟩
abbrev S16384x4096 : Shape := ⟨2, ![16384, 4096]⟩
abbrev S2x16384x4096 : Shape := ⟨3, ![2, 16384, 4096]⟩
abbrev S1024x2048 : Shape := ⟨2, ![1024, 2048]⟩
abbrev S2048x1024 : Shape := ⟨2, ![2048, 1024]⟩
abbrev S1024x1024 : Shape := ⟨2, ![1024, 1024]⟩
abbrev S1x64x4096 : Shape := ⟨3, ![1, 64, 4096]⟩
abbrev S64x4096 : Shape := ⟨2, ![64, 4096]⟩

abbrev nBuf : Space → Nat
  | .hbm => 8
  | .vmem => 17
  | .smem => 0
  | _ => 0

abbrev bufTy : (tb : Table) → Fin (tcTables nBuf tb) → BufTy
  | .hbm, ⟨0, _⟩ => ⟨S16384x8192, .bf16⟩
  | .hbm, ⟨1, _⟩ => ⟨S8192x4096, .bf16⟩
  | .hbm, ⟨2, _⟩ => ⟨S16384x4096, .f32⟩
  | .hbm, ⟨3, _⟩ => ⟨S2x16384x4096, .f32⟩
  | .hbm, ⟨4, _⟩ => ⟨S2x16384x4096, .f32⟩
  | .hbm, ⟨5, _⟩ => ⟨S16384x4096, .f32⟩
  | .hbm, ⟨6, _⟩ => ⟨S16384x4096, .bf16⟩
  | .hbm, ⟨7, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x64x4096, .f32⟩
  | .local _ .vmem, ⟨7, _⟩ => ⟨S1x64x4096, .f32⟩
  | .local _ .vmem, ⟨8, _⟩ => ⟨S1x64x4096, .f32⟩
  | .local _ .vmem, ⟨9, _⟩ => ⟨S1x64x4096, .f32⟩
  | .local _ .vmem, ⟨10, _⟩ => ⟨S1024x1024, .f32⟩
  | .local _ .vmem, ⟨11, _⟩ => ⟨S1024x1024, .f32⟩
  | .local _ .vmem, ⟨12, _⟩ => ⟨S64x4096, .bf16⟩
  | .local _ .vmem, ⟨13, _⟩ => ⟨S64x4096, .bf16⟩
  | .local _ .vmem, ⟨14, _⟩ => ⟨S64x4096, .bf16⟩
  | .local _ .vmem, ⟨15, _⟩ => ⟨S64x4096, .bf16⟩
  | .local _ .vmem, ⟨16, _⟩ => ⟨S1024x1024, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_18 : BitVec 32 := 0#32
  let v21 : BitVec 1 := Scalar.cmpi .ne v20 c0_i32_18
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c255_i32 : BitVec 32 := 255#32
  let v4 : BitVec 32 := Scalar.minsi v3 c255_i32
  let c1_i32 : BitVec 32 := 1#32
  let c0_i32 : BitVec 32 := 0#32
  let c0_i32_1 : BitVec 32 := 0#32
  ![c1_i32.toNat, v4.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c255_i32 : BitVec 32 := 255#32
  let v4 : BitVec 32 := Scalar.minsi v3 c255_i32
  let c1_i32 : BitVec 32 := 1#32
  let c0_i32 : BitVec 32 := 0#32
  let c0_i32_1 : BitVec 32 := 0#32
  ![c1_i32.toNat, v4.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c255_i32 : BitVec 32 := 255#32
  let v4 : BitVec 32 := Scalar.minsi v3 c255_i32
  let c0_i32 : BitVec 32 := 0#32
  let c0_i32_1 : BitVec 32 := 0#32
  ![v4.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c255_i32 : BitVec 32 := 255#32
  let v4 : BitVec 32 := Scalar.minsi v3 c255_i32
  let c0_i32 : BitVec 32 := 0#32
  let c0_i32_1 : BitVec 32 := 0#32
  ![v4.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== OutProjRefIdeal.lean ====
abbrev S16384x8192 : Shape := ⟨2, ![16384, 8192]⟩
abbrev S8192x4096 : Shape := ⟨2, ![8192, 4096]⟩
abbrev S16384x4096 : Shape := ⟨2, ![16384, 4096]⟩
abbrev S2x16384x4096 : Shape := ⟨3, ![2, 16384, 4096]⟩
abbrev S1x16384x4096 : Shape := ⟨3, ![1, 16384, 4096]⟩

abbrev nBuf : Space → Nat
  | .hbm => 13
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S8192x4096, .bf16⟩
  | .hbm, ⟨2, _⟩ => ⟨S16384x4096, .f32⟩
  | .hbm, ⟨3, _⟩ => ⟨S2x16384x4096, .f32⟩
  | .hbm, ⟨4, _⟩ => ⟨S2x16384x4096, .f32⟩
  | .hbm, ⟨5, _⟩ => ⟨S16384x4096, .f32⟩
  | .hbm, ⟨6, _⟩ => ⟨S16384x4096, .f32⟩
  | .hbm, ⟨7, _⟩ => ⟨S1x16384x4096, .f32⟩
  | .hbm, ⟨8, _⟩ => ⟨S16384x4096, .f32⟩
  | .hbm, ⟨9, _⟩ => ⟨S16384x4096, .bf16⟩
  | .hbm, ⟨10, _⟩ => ⟨S1x16384x4096, .f32⟩
  | .hbm, ⟨11, _⟩ => ⟨S16384x4096, .f32⟩
  | .hbm, ⟨12, _⟩ => ⟨S16384x4096, .bf16⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KvProj.lean ====
abbrev S16384x4096 : Shape := ⟨2, ![16384, 4096]⟩
abbrev S4096x8192 : Shape := ⟨2, ![4096, 8192]⟩
abbrev S16384x8192 : Shape := ⟨2, ![16384, 8192]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x8192, .bf16⟩
  | .hbm, ⟨2, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvProjRefIdeal.lean ====
abbrev S16384x4096 : Shape := ⟨2, ![16384, 4096]⟩
abbrev S4096x8192 : Shape := ⟨2, ![4096, 8192]⟩
abbrev S16384x8192 : Shape := ⟨2, ![16384, 8192]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x8192, .bf16⟩
  | .hbm, ⟨2, _⟩ => ⟨S16384x8192, .f32⟩
  | .hbm, ⟨3, _⟩ => ⟨S16384x8192, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== QueryProj.lean ====
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryProjRefIdeal.lean ====
abbrev S16384x4096 : Shape := ⟨2, ![16384, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== PeerProj.lean ====
abbrev S16384x4096 : Shape := ⟨2, ![16384, 4096]⟩
abbrev S4096x2048 : Shape := ⟨2, ![4096, 2048]⟩
abbrev S16384x2048 : Shape := ⟨2, ![16384, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PeerProjRefIdeal.lean ====
abbrev S16384x4096 : Shape := ⟨2, ![16384, 4096]⟩
abbrev S4096x2048 : Shape := ⟨2, ![4096, 2048]⟩
abbrev S16384x2048 : Shape := ⟨2, ![16384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S16384x2048, .f32⟩
  | .hbm, ⟨3, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SbOutProj.lean ====
abbrev S16384x4096 : Shape := ⟨2, ![16384, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SbOutProjRefIdeal.lean ====
abbrev S16384x4096 : Shape := ⟨2, ![16384, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x4096, .f32⟩
  | .hbm, ⟨4, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Norm.lean ====
abbrev S16384x4096 : Shape := ⟨2, ![16384, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x4096 : Shape := ⟨2, ![16384, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== NormPair.lean ====
abbrev S16384x4096 : Shape := ⟨2, ![16384, 4096]⟩
abbrev S2x4096 : Shape := ⟨2, ![2, 4096]⟩
abbrev S256x4096 : Shape := ⟨2, ![256, 4096]⟩
abbrev S256 : Shape := ⟨1, ![256]⟩
abbrev S256x1 : Shape := ⟨2, ![256, 1]⟩
abbrev S1x4096 : Shape := ⟨2, ![1, 4096]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S2x4096, .f32⟩
  | .hbm, ⟨2, _⟩ => ⟨S16384x4096, .bf16⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S2x4096, .f32⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormPairRefIdeal.lean ====
abbrev S16384x4096 : Shape := ⟨2, ![16384, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 40
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S16384x4096, .bf16⟩
  | .hbm, ⟨21, _⟩ => ⟨S1x4096, .f32⟩
  | .hbm, ⟨22, _⟩ => ⟨S4096, .f32⟩
  | .hbm, ⟨23, _⟩ => ⟨S16384x4096, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x4096, .f32⟩
  | .hbm, ⟨35, _⟩ => ⟨S16384x4096, .f32⟩
  | .hbm, ⟨36, _⟩ => ⟨S1x4096, .f32⟩
  | .hbm, ⟨37, _⟩ => ⟨S16384x4096, .f32⟩
  | .hbm, ⟨38, _⟩ => ⟨S16384x4096, .f32⟩
  | .hbm, ⟨39, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== WeightCast.lean ====
abbrev S1x4096x24576 : Shape := ⟨3, ![1, 4096, 24576]⟩
abbrev S4096x24576 : Shape := ⟨2, ![4096, 24576]⟩
abbrev S1x512x4096 : Shape := ⟨3, ![1, 512, 4096]⟩
abbrev S512x4096 : Shape := ⟨2, ![512, 4096]⟩

abbrev nBuf : Space → Nat
  | .hbm => 2
  | .vmem => 4
  | .smem => 0
  | _ => 0

abbrev bufTy : (tb : Table) → Fin (tcTables nBuf tb) → BufTy
  | .hbm, ⟨0, _⟩ => ⟨S1x4096x24576, .f32⟩
  | .hbm, ⟨1, _⟩ => ⟨S4096x24576, .bf16⟩
  | .local _ .vmem, ⟨0, _⟩ => ⟨S1x512x4096, .f32⟩
  | .local _ .vmem, ⟨1, _⟩ => ⟨S1x512x4096, .f32⟩
  | .local _ .vmem, ⟨2, _⟩ => ⟨S512x4096, .bf16⟩
  | .local _ .vmem, ⟨3, _⟩ => ⟨S512x4096, .bf16⟩
  | _, _ => ⟨S1x4096x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== WeightCastRefIdeal.lean ====
abbrev S1x4096x24576 : Shape := ⟨3, ![1, 4096, 24576]⟩
abbrev S4096x24576 : Shape := ⟨2, ![4096, 24576]⟩

abbrev nBuf : Space → Nat
  | .hbm => 3
  | .vmem => 0
  | .smem => 0
  | _ => 0

abbrev bufTy : (tb : Table) → Fin (tcTables nBuf tb) → BufTy
  | .hbm, ⟨0, _⟩ => ⟨S1x4096x24576, .f32⟩
  | .hbm, ⟨1, _⟩ => ⟨S4096x24576, .f32⟩
  | .hbm, ⟨2, _⟩ => ⟨S4096x24576, .bf16⟩
  | _, _ => ⟨S1x4096x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Stick.lean ====
abbrev S16384x4096 : Shape := ⟨2, ![16384, 4096]⟩
abbrev S16384x8192 : Shape := ⟨2, ![16384, 8192]⟩
abbrev S128 : Shape := ⟨1, ![128]⟩
abbrev S1x128 : Shape := ⟨2, ![1, 128]⟩
abbrev S1024x128 : Shape := ⟨2, ![1024, 128]⟩
abbrev S4096x128 : Shape := ⟨2, ![4096, 128]⟩
abbrev S1024x1 : Shape := ⟨2, ![1024, 1]⟩
abbrev S1024 : Shape := ⟨1, ![1024]⟩
abbrev S256x256 : Shape := ⟨2, ![256, 256]⟩
abbrev S256x128 : Shape := ⟨2, ![256, 128]⟩
abbrev S256x1 : Shape := ⟨2, ![256, 1]⟩
abbrev S512x128 : Shape := ⟨2, ![512, 128]⟩
abbrev S512x256 : Shape := ⟨2, ![512, 256]⟩
abbrev S512x1 : Shape := ⟨2, ![512, 1]⟩
abbrev S768x128 : Shape := ⟨2, ![768, 128]⟩
abbrev S768x256 : Shape := ⟨2, ![768, 256]⟩
abbrev S768x1 : Shape := ⟨2, ![768, 1]⟩
abbrev S1024x256 : Shape := ⟨2, ![1024, 256]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 7
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S16384x8192, .bf16⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S16384x4096, .bf16⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x128, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | .local _ .vmem, ⟨10, _⟩ => ⟨S4096x128, .bf16⟩
  | .local _ .vmem, ⟨11, _⟩ => ⟨S1024x128, .f32⟩
  | .local _ .vmem, ⟨12, _⟩ => ⟨S1024x1, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 32, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_119 : BitVec 32 := 0#32
  let c4_i32_120 : BitVec 32 := 4#32
  let v295 : BitVec 32 := Scalar.addi c0_i32_119 c4_i32_120
  let c1_i32_121 : BitVec 32 := 1#32
  ⟨c0_i32_119, v295, c1_i32_121⟩
def k0_mult1 (k0_t1 : Fin k0_t1_loop.trips) : BitVec 32 :=
  let c0_i32_119 : BitVec 32 := 0#32
  let c1_i32_121 : BitVec 32 := 1#32
  let arg12 : BitVec 32 := Scf.iv c0_i32_119 c1_i32_121 k0_t1
  let c1024_i32_123 : BitVec 32 := 1024#32
  let v296 : BitVec 32 := Scalar.muli arg12 c1024_i32_123
  v296
def k0_off1 (k0_t1 : Fin k0_t1_loop.trips) : Fin 2 → Nat :=
  let c0_i32_119 : BitVec 32 := 0#32
  let c1_i32_121 : BitVec 32 := 1#32
  let arg12 : BitVec 32 := Scf.iv c0_i32_119 c1_i32_121 k0_t1
  let c1024_i32_123 : BitVec 32 := 1024#32
  let v296 : BitVec 32 := Scalar.muli arg12 c1024_i32_123
  let v297 : BitVec 32 := v296
  let v298 : Index := Scalar.indexCast v297
  let c0_124 : Index := 0#32
  ![v298.toNat, 0]
def k0_mult2 (i : grid0.Coords) : BitVec 32 :=
  let arg2 : BitVec 32 := BitVec.ofNat 32 (i 2).val
  let c4_i32 : BitVec 32 := 4#32
  let v36 : BitVec 32 := Scalar.muli arg2 c4_i32
  let c3_i32 : BitVec 32 := 3#32
  let v37 : BitVec 32 := Scalar.addi v36 c3_i32
  let c256_i32 : BitVec 32 := 256#32
  let v38 : BitVec 32 := Scalar.muli v37 c256_i32
  v38
def k0_off2 (i : grid0.Coords) (c3_i32 : BitVec 32) : Fin 2 → Nat :=
  let arg2 : BitVec 32 := BitVec.ofNat 32 (i 2).val
  let c4_i32 : BitVec 32 := 4#32
  let v36 : BitVec 32 := Scalar.muli arg2 c4_i32
  let v37 : BitVec 32 := Scalar.addi v36 c3_i32
  let c256_i32 : BitVec 32 := 256#32
  let v38 : BitVec 32 := Scalar.muli v37 c256_i32
  let v39 : BitVec 32 := v38
  let v41 : Index := Scalar.indexCast v39
  let c0_13 : Index := 0#32
  ![v41.toNat, 0]
def k0_mult3 (i : grid0.Coords) : BitVec 32 :=
  let arg2 : BitVec 32 := BitVec.ofNat 32 (i 2).val
  let c4_i32_22 : BitVec 32 := 4#32
  let v75 : BitVec 32 := Scalar.muli arg2 c4_i32_22
  let c2_i32 : BitVec 32 := 2#32
  let v76 : BitVec 32 := Scalar.addi v75 c2_i32
  let c256_i32_23 : BitVec 32 := 256#32
  let v77 : BitVec 32 := Scalar.muli v76 c256_i32_23
  v77
def k0_mult4 (i : grid0.Coords) : BitVec 32 :=
  let arg2 : BitVec 32 := BitVec.ofNat 32 (i 2).val
  let c4_i32_34 : BitVec 32 := 4#32
  let v114 : BitVec 32 := Scalar.muli arg2 c4_i32_34
  let c1_i32 : BitVec 32 := 1#32
  let v115 : BitVec 32 := Scalar.addi v114 c1_i32
  let c256_i32_35 : BitVec 32 := 256#32
  let v116 : BitVec 32 := Scalar.muli v115 c256_i32_35
  v116
def k0_mult5 (i : grid0.Coords) : BitVec 32 :=
  let arg2 : BitVec 32 := BitVec.ofNat 32 (i 2).val
  let c4_i32_47 : BitVec 32 := 4#32
  let v153 : BitVec 32 := Scalar.muli arg2 c4_i32_47
  let c0_i32_48 : BitVec 32 := 0#32
  let v154 : BitVec 32 := Scalar.addi v153 c0_i32_48
  let c256_i32_49 : BitVec 32 := 256#32
  let v155 : BitVec 32 := Scalar.muli v154 c256_i32_49
  v155
def k0_mult6 (i : grid0.Coords) (arg12 : BitVec 32) : BitVec 32 :=
  let arg2 : BitVec 32 := BitVec.ofNat 32 (i 2).val
  let c4_i32_119 : BitVec 32 := 4#32
  let v295 : BitVec 32 := Scalar.muli arg2 c4_i32_119
  let c1_i32_120 : BitVec 32 := 1#32
  let v296 : BitVec 32 := Scalar.subi v295 c1_i32_120
  let c1_i32_121 : BitVec 32 := 1#32
  let v297 : BitVec 32 := Scalar.muli arg12 c1_i32_121
  let v298 : BitVec 32 := Scalar.subi v296 v297
  let c0_i32_122 : BitVec 32 := 0#32
  let v299 : BitVec 32 := Scalar.subi v298 c0_i32_122
  let c256_i32_123 : BitVec 32 := 256#32
  let v300 : BitVec 32 := Scalar.muli v299 c256_i32_123
  v300

def k0_off3 (i : grid0.Coords) (arg12 : BitVec 32) : Fin 2 → Nat :=
  let arg2 : BitVec 32 := BitVec.ofNat 32 (i 2).val
  let c4_i32_119 : BitVec 32 := 4#32
  let v295 : BitVec 32 := Scalar.muli arg2 c4_i32_119
  let c1_i32_120 : BitVec 32 := 1#32
  let v296 : BitVec 32 := Scalar.subi v295 c1_i32_120
  let c1_i32_121 : BitVec 32 := 1#32
  let v297 : BitVec 32 := Scalar.muli arg12 c1_i32_121
  let v298 : BitVec 32 := Scalar.subi v296 v297
  let c0_i32_122 : BitVec 32 := 0#32
  let v299 : BitVec 32 := Scalar.subi v298 c0_i32_122
  let c256_i32_123 : BitVec 32 := 256#32
  let v300 : BitVec 32 := Scalar.muli v299 c256_i32_123
  let v301 : BitVec 32 := v300
  let v302 : Index := Scalar.indexCast v301
  let c0_124 : Index := 0#32
  ![v302.toNat, 0]

def k0_chk1 (i : grid0.Coords) (arg12 : BitVec 32) : Prop :=
  (256 ∣ (k0_mult6 i arg12).toNat) ∧
  (∀ a, (k0_off3 i arg12) a + S256x128.size a ≤ S4096x128.size a)
theorem k0_mult6_dvd : ∀ (i : grid0.Coords) (arg12 : BitVec 32) (k0_hw1 : k0_chk1 i arg12), 256 ∣ (k0_mult6 i arg12).toNat := fun i arg12 k0_hw1 => k0_hw1.1
theorem k0_off3_inb : ∀ (i : grid0.Coords) (arg12 : BitVec 32) (k0_hw1 : k0_chk1 i arg12), ∀ a, (k0_off3 i arg12) a + S256x128.size a ≤ S4096x128.size a := fun i arg12 k0_hw1 => k0_hw1.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Proof.RetReal.lean ====
/- The mathematics of retention over the real numbers, with nothing of a program in it.

   One head of one sequence has queries `q t d`, keys `k t d`, values `v t e` and a decay `exp ℓ`.  The state before
   position `n` is the decayed sum of the outer products of the keys and values before `n`; the output at position `t` is the
   query against every earlier (and the present) position's key, decayed by the distance, times the value.  Both programs
   compute this in chunks, of unlike lengths; the two lemmas at the end say what one chunk of any length `C` does. -/
module

public import Idealize.ShloMosaic.Lib.Pointwise

@[expose] public section

noncomputable section

namespace Cert.Ret

open Finset

variable {D E : Type} [Fintype D]

/-- The state before position `n`: `∑ s < n, exp((n - 1 - s)ℓ) · k s d · v s e`. -/
def stateR (ℓ : ℝ) (k : ℕ → D → ℝ) (v : ℕ → E → ℝ) (n : ℕ) (d : D) (e : E) : ℝ :=
  ∑ s ∈ range n, Real.exp (((n : ℝ) - 1 - s) * ℓ) * (k s d * v s e)

/-- The output at position `t`: `∑ s ≤ t, exp((t - s)ℓ) · (q t · k s) · v s e`. -/
def outR (ℓ : ℝ) (q k : ℕ → D → ℝ) (v : ℕ → E → ℝ) (t : ℕ) (e : E) : ℝ :=
  ∑ s ∈ range (t + 1), Real.exp (((t : ℝ) - s) * ℓ) * ((∑ d, q t d * k s d) * v s e)

/-- The decay between rows `i` and `j` of a chunk: `exp((i - j)ℓ)` on and below the diagonal, zero above. -/
def decayR (ℓ : ℝ) (i j : ℕ) : ℝ := if j ≤ i then Real.exp (((i : ℝ) - j) * ℓ) else 0

/-- Before the first position the state is zero. -/
theorem stateR_zero (ℓ : ℝ) (k : ℕ → D → ℝ) (v : ℕ → E → ℝ) (d : D) (e : E) : stateR ℓ k v 0 d e = 0 := by
  simp [stateR]

/-- ONE CHUNK'S STATE: the state before `n + C` is the state before `n` decayed `C` positions, plus the chunk's own keys, each
    decayed to the chunk's end, against its values. -/
theorem stateR_add (ℓ : ℝ) (k : ℕ → D → ℝ) (v : ℕ → E → ℝ) (n C : ℕ) (d : D) (e : E) :
    stateR ℓ k v (n + C) d e = stateR ℓ k v n d e * Real.exp ((C : ℝ) * ℓ)
      + ∑ j : Fin C, (k (n + j) d * Real.exp (((C : ℝ) - 1 - (j : ℕ)) * ℓ)) * v (n + j) e := by
  unfold stateR
  rw [sum_range_add, sum_mul, Fin.sum_univ_eq_sum_range (fun j => (k (n + j) d * Real.exp (((C : ℝ) - 1 - (j : ℕ)) * ℓ)) * v (n + j) e)]
  congr 1
  · refine sum_congr rfl fun s _ => ?_
    rw [mul_right_comm, ← Real.exp_add]
    congr 2; push_cast; ring
  · refine sum_congr rfl fun j _ => ?_
    have : Real.exp ((((n + C : ℕ) : ℝ) - 1 - ((n + j : ℕ) : ℝ)) * ℓ) = Real.exp (((C : ℝ) - 1 - (j : ℕ)) * ℓ) := by
      congr 1; push_cast; ring
    rw [this]; ring

/-- ONE CHUNK'S OUTPUT: row `i` of the chunk that starts at `n` is the chunk's own part (queries against keys, decayed, against
    values) plus the row's query, decayed from the chunk's start, against the state before the chunk. -/
theorem outR_chunk (ℓ : ℝ) (q k : ℕ → D → ℝ) (v : ℕ → E → ℝ) (n C i : ℕ) (hi : i < C) (e : E) :
    outR ℓ q k v (n + i) e
      = (∑ j : Fin C, ((∑ d, q (n + i) d * k (n + j) d) * decayR ℓ i j) * v (n + j) e)
        + ∑ d, (q (n + i) d * Real.exp (((i : ℝ) + 1) * ℓ)) * stateR ℓ k v n d e := by
  have hown : ∑ j : Fin C, ((∑ d, q (n + i) d * k (n + j) d) * decayR ℓ i j) * v (n + j) e
      = ∑ j ∈ range (i + 1), Real.exp (((i : ℝ) - j) * ℓ) * ((∑ d, q (n + i) d * k (n + j) d) * v (n + j) e) := by
    rw [Fin.sum_univ_eq_sum_range (fun j => ((∑ d, q (n + i) d * k (n + j) d) * decayR ℓ i j) * v (n + j) e)]
    rw [← sum_subset (range_subset_range.mpr (show i + 1 ≤ C by omega))]
    · refine sum_congr rfl fun j hj => ?_
      have : j ≤ i := by have := mem_range.mp hj; omega
      rw [decayR, if_pos this]; ring
    · intro j _ hj
      have : ¬ j ≤ i := by have := mt mem_range.mpr hj; omega
      rw [decayR, if_neg this]; ring
  have hpast : ∑ d, (q (n + i) d * Real.exp (((i : ℝ) + 1) * ℓ)) * stateR ℓ k v n d e
      = ∑ s ∈ range n, Real.exp ((((n + i : ℕ) : ℝ) - s) * ℓ) * ((∑ d, q (n + i) d * k s d) * v s e) := by
    unfold stateR
    simp only [mul_sum, sum_mul]
    rw [sum_comm]
    refine sum_congr rfl fun s _ => sum_congr rfl fun d _ => ?_
    have : Real.exp ((((n + i : ℕ) : ℝ) - s) * ℓ) = Real.exp (((i : ℝ) + 1) * ℓ) * Real.exp (((n : ℝ) - 1 - s) * ℓ) := by
      rw [← Real.exp_add]; congr 1; push_cast; ring
    rw [this]; ring
  rw [hown, hpast]
  unfold outR
  rw [show n + i + 1 = n + (i + 1) from rfl, sum_range_add, add_comm]
  congr 1
  refine sum_congr rfl fun j _ => ?_
  congr 3; push_cast; ring

/-- The same with the decay of the query taken out of the sum over the key's coordinates. -/
theorem outR_chunk' (ℓ : ℝ) (q k : ℕ → D → ℝ) (v : ℕ → E → ℝ) (n C i : ℕ) (hi : i < C) (e : E) :
    outR ℓ q k v (n + i) e
      = (∑ j : Fin C, ((∑ d, q (n + i) d * k (n + j) d) * decayR ℓ i j) * v (n + j) e)
        + (∑ d, q (n + i) d * stateR ℓ k v n d e) * Real.exp (((i : ℝ) + 1) * ℓ) := by
  rw [outR_chunk ℓ q k v n C i hi e, sum_mul]
  congr 1
  exact sum_congr rfl fun d _ => by ring

/-- A finite sum of reals, read among the extended reals, is the sum of the terms read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

end Cert.Ret

end

end
-- ==== Proof.RetScalar.lean ====
/- Single extended reals: the programs' literals, the host's functions on finite numbers, and the tables' real values.

   Both programs build the same tables on the host (the rotary angles and the decays); on the positions they are asked for they
   are real numbers, named here. -/
module

public import Idealize.ShloMosaic.Lib.Pointwise
public import proofs.«01_k».proof.Proof.RetReal

@[expose] public section

noncomputable section

namespace Cert.Ret

open Idealize.ShloMosaic

/-! ### The literals -/

theorem lit_two : Ideal.ofBits .f32 0x40000000#32 = ((2 : ℝ) : EReal) := by
  simp [Ideal.ofBits, Ideal.ieee, -EReal.coe_mul]; norm_num
theorem lit_256 : Ideal.ofBits .f32 0x43800000#32 = ((256 : ℝ) : EReal) := by
  simp [Ideal.ofBits, Ideal.ieee, -EReal.coe_mul]; norm_num
theorem lit_10000 : Ideal.ofBits .f32 0x461C4000#32 = ((10000 : ℝ) : EReal) := by
  simp [Ideal.ofBits, Ideal.ieee, -EReal.coe_mul]; norm_num
theorem lit_sixteenth : Ideal.ofBits .f32 0x3D800000#32 = ((1 / 16 : ℝ) : EReal) := by
  simp [Ideal.ofBits, Ideal.ieee, -EReal.coe_mul]; norm_num
theorem lit_neg_five : Ideal.ofBits .f32 0xC0A00000#32 = ((-5 : ℝ) : EReal) := by
  simp [Ideal.ofBits, Ideal.ieee, -EReal.coe_mul, -EReal.coe_neg]; norm_num
theorem lit_127 : Ideal.ofBits .f32 0x42FE0000#32 = ((127 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num
theorem lit_255 : Ideal.ofBits .f32 0x437F0000#32 = ((255 : ℝ) : EReal) := by
  simp [Ideal.ofBits, Ideal.ieee, -EReal.coe_mul]; norm_num
/-- The number the literal that stands for the logarithm of two denotes: a positive real. -/
def ln2R : ℝ := 11629080 / 16777216
theorem lit_ln2 : Ideal.ofBits .f32 0x3F317218#32 = ((ln2R : ℝ) : EReal) := by
  simp [Ideal.ofBits, Ideal.ieee, -EReal.coe_mul, ln2R]; norm_num
theorem lit_one : Ideal.ofBits .f32 0x3F800000#32 = ((1 : ℝ) : EReal) := by
  rw [Ideal.ofBits_one_f32]; norm_cast
theorem lit_zero : Ideal.ofBits .f32 0x00000000#32 = ((0 : ℝ) : EReal) := by
  rw [Ideal.ofBits_zero_f32]; norm_cast

/-! ### The functions on finite numbers -/

theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]
theorem exp_coe (x : ℝ) : Ideal.exp (x : EReal) = ((Real.exp x : ℝ) : EReal) := rfl
theorem cos_coe (x : ℝ) : Ideal.cos (x : EReal) = ((Real.cos x : ℝ) : EReal) := rfl
theorem sin_coe (x : ℝ) : Ideal.sin (x : EReal) = ((Real.sin x : ℝ) : EReal) := rfl
theorem pow_coe (x y : ℝ) : Ideal.pow (x : EReal) (y : EReal) = ((x ^ y : ℝ) : EReal) := rfl
theorem log1p_coe (x : ℝ) (h : 0 < 1 + x) : Ideal.log1p (x : EReal) = ((Real.log (1 + x) : ℝ) : EReal) := by
  unfold Ideal.log1p
  rw [show (1 : EReal) = ((1 : ℝ) : EReal) by norm_cast, ← EReal.coe_add]
  show (if 1 + x ≤ 0 then (⊥ : EReal) else ((Real.log (1 + x) : ℝ) : EReal)) = _
  rw [if_neg (not_le.mpr h)]

/-- A count below 2³¹, held as a word and turned into a float, is that number. -/
theorem sitofp_ofNat (n : ℕ) (h : n < 2147483648) :
    FloatOps.sitofp (F := Ideal) .f32 (BitVec.ofNat 32 n) = ((n : ℝ) : EReal) := by
  show (((BitVec.ofNat 32 n).toInt : ℝ) : EReal) = _
  have : (BitVec.ofNat 32 n).toInt = (n : ℤ) := by
    rw [BitVec.toInt_eq_toNat_of_lt] <;> rw [BitVec.toNat_ofNat] <;> omega
  rw [this]; norm_cast

/-! ### The tables' real values -/

/-- The rotary frequency of coordinate `j`: `1 / 10000^(2j/256)`. -/
def invR (j : ℕ) : ℝ := 1 / (10000 : ℝ) ^ ((2 * (j : ℝ)) / 256)
/-- The cosine and the sine of position `t`'s rotary angle at coordinate `j`. -/
def cosR (t j : ℕ) : ℝ := Real.cos ((t : ℝ) * invR j)
def sinR (t j : ℕ) : ℝ := Real.sin ((t : ℝ) * invR j)
/-- Head `h`'s log-decay, `log(1 - exp(ln2 · (-5 - h)))`. -/
def ellR (h : ℕ) : ℝ := Real.log (1 + -Real.exp (ln2R * (-5 - (h : ℝ))))

/-- The frequency's divisor is not zero. -/
theorem pow_ne (y : ℝ) : (10000 : ℝ) ^ y ≠ 0 := (Real.rpow_pos_of_pos (by norm_num) y).ne'

/-- A head's decay is below one, so its logarithm is of a positive number. -/
theorem decay_pos (h : ℕ) : 0 < 1 + -Real.exp (ln2R * (-5 - (h : ℝ))) := by
  have : Real.exp (ln2R * (-5 - (h : ℝ))) < 1 := by
    rw [Real.exp_lt_one_iff]
    have h0 : (0 : ℝ) ≤ (h : ℝ) := Nat.cast_nonneg h
    have : (0 : ℝ) < ln2R := by unfold ln2R; norm_num
    nlinarith
  linarith

/-- A count below `n ≤ 4096`, as the float the programs make of it. -/
theorem sitofp_fin {n : ℕ} (j : Fin n) (hn : n ≤ 4096) :
    FloatOps.sitofp (F := Ideal) .f32 (BitVec.ofNat 32 (j : ℕ)) = (((j : ℕ) : ℝ) : EReal) :=
  sitofp_ofNat _ (by have := j.isLt; omega)

/-- What the host computes as the rotary frequency of coordinate `j`. -/
theorem inv_coe {n : ℕ} (j : Fin n) (hn : n ≤ 4096) :
    Ideal.div 1 (Ideal.pow (Ideal.ofBits .f32 0x461C4000#32) (Ideal.div (Ideal.ofBits .f32 0x40000000#32 *
        FloatOps.sitofp (F := Ideal) .f32 (BitVec.ofNat 32 (j : ℕ))) (Ideal.ofBits .f32 0x43800000#32)))
      = ((invR j : ℝ) : EReal) := by
  rw [sitofp_fin j hn, lit_two, lit_256, lit_10000, ← EReal.coe_mul, div_coe _ _ (by norm_num), pow_coe, ← EReal.coe_one,
    div_coe _ _ (pow_ne _)]
  rfl

/-- What the host computes as head `h`'s log-decay. -/
theorem ell_coe {n : ℕ} (h : Fin n) (hn : n ≤ 4096) :
    Ideal.log1p (-Ideal.exp (Ideal.ofBits .f32 0x3F317218#32 *
        (Ideal.ofBits .f32 0xC0A00000#32 - FloatOps.sitofp (F := Ideal) .f32 (BitVec.ofNat 32 (h : ℕ))))) = ((ellR h : ℝ) : EReal) := by
  rw [sitofp_fin h hn, lit_ln2, lit_neg_five, ← EReal.coe_sub, ← EReal.coe_mul, exp_coe, ← EReal.coe_neg, log1p_coe _ (decay_pos h)]
  rfl

/-- What the host computes as the decay from position `j` of a chunk to position `i`. -/
theorem decay_coe {n : ℕ} (i j : Fin n) (hn : n ≤ 4096) (ℓ : ℝ) :
    (if 0 ≤ FloatOps.sitofp (F := Ideal) .f32 (BitVec.ofNat 32 (i : ℕ)) - FloatOps.sitofp (F := Ideal) .f32 (BitVec.ofNat 32 (j : ℕ)) then
        Ideal.exp ((if 0 ≤ FloatOps.sitofp (F := Ideal) .f32 (BitVec.ofNat 32 (i : ℕ)) - FloatOps.sitofp (F := Ideal) .f32 (BitVec.ofNat 32 (j : ℕ)) then
            FloatOps.sitofp (F := Ideal) .f32 (BitVec.ofNat 32 (i : ℕ)) - FloatOps.sitofp (F := Ideal) .f32 (BitVec.ofNat 32 (j : ℕ))
          else 0) * (ℓ : EReal))
      else 0) = ((decayR ℓ i j : ℝ) : EReal) := by
  rw [sitofp_fin i hn, sitofp_fin j hn, ← EReal.coe_sub]
  have key : (0 : EReal) ≤ (((i : ℕ) : ℝ) - ((j : ℕ) : ℝ) : ℝ) ↔ (j : ℕ) ≤ (i : ℕ) := by
    rw [EReal.coe_nonneg, sub_nonneg, Nat.cast_le]
  unfold decayR
  by_cases hc : (j : ℕ) ≤ (i : ℕ)
  · rw [if_pos (key.mpr hc), if_pos (key.mpr hc), if_pos hc, ← EReal.coe_mul, exp_coe]
  · rw [if_neg (fun h => hc (key.mp h)), if_neg hc]; rfl

/-! ### The rotation -/

/-- Coordinate `d` of a rotated row: the first half `x₁ cos - x₂ sin`, the second `x₁ sin + x₂ cos`. -/
def rotR (c s x : ℕ → ℝ) (d : ℕ) : ℝ :=
  if d < 128 then x d * c d - x (128 + d) * s d else x (d - 128) * s (d - 128) + x d * c (d - 128)

end Cert.Ret

end
-- ==== Proof.RetProj.lean ====
/-
  The projection's real parts: what one head of one sequence reads of it. Row `4096 b + t` holds position `t` of sequence `b`;
  head `h`'s queries, keys, values and gates lie in columns `256 h`, `4096 + 256 h`, `8192 + 512 h` and `16384 + 512 h`.
-/
module

public import proofs.«01_k».proof.Proof.RetScalar

@[expose] public section

noncomputable section

namespace Cert.Ret

open Idealize.ShloMosaic

/-- A projection's contents, over the extended reals. -/
abbrev Proj : Type := (⟨2, ![16384, 24576]⟩ : Shape).Idx → EReal

/-- The projection at a row and a column, as a real number (zero outside). -/
def pr (x : Proj) (r c : ℕ) : ℝ :=
  if h : r < 16384 ∧ c < 24576 then (x (ix2 ⟨r, h.1⟩ ⟨c, h.2⟩)).toReal else 0

/-- Every entry is a real number. -/
def Finite (x : Proj) : Prop := ∀ i, x i ≠ ⊤ ∧ x i ≠ ⊥

/-- A finite projection's entry at any index whose row and column are `r` and `c`. -/
theorem Finite.at {x : Proj} (hx : Finite x) (a : Fin 16384) (b : Fin 24576) {r c : ℕ} (hr : (a : ℕ) = r) (hc : (b : ℕ) = c) :
    x (ix2 a b) = ((pr x r c : ℝ) : EReal) := by
  subst hr; subst hc
  unfold pr
  rw [dif_pos ⟨a.isLt, b.isLt⟩]
  exact (EReal.coe_toReal (hx _).1 (hx _).2).symm

variable (x : Proj) (b h : ℕ)

/-- Head `h`'s query of sequence `b` at position `t`, coordinate `d`: rotated. -/
def qF (t : ℕ) (d : Fin 256) : ℝ := rotR (cosR t) (sinR t) (fun j => pr x (4096 * b + t) (256 * h + j)) d
/-- Its key: rotated and divided by sixteen. -/
def kF (t : ℕ) (d : Fin 256) : ℝ := rotR (cosR t) (sinR t) (fun j => pr x (4096 * b + t) (4096 + 256 * h + j)) d * (1 / 16)
/-- Its value. -/
def vF (t : ℕ) (e : Fin 512) : ℝ := pr x (4096 * b + t) (8192 + 512 * h + e)
/-- Its gate. -/
def gF (t : ℕ) (e : Fin 512) : ℝ := pr x (4096 * b + t) (16384 + 512 * h + e)
/-- Its state before position `n`. -/
def stF (n : ℕ) (d : Fin 256) (e : Fin 512) : ℝ := stateR (ellR h) (kF x b h) (vF x b h) n d e
/-- Its output at position `t`, before the head norm. -/
def oF (t : ℕ) (e : Fin 512) : ℝ := outR (ellR h) (qF x b h) (kF x b h) (vF x b h) t e

/-- The logistic gate `γ / (1 + exp(-γ))`. -/
def siluR (γ : ℝ) : ℝ := γ / (1 + Real.exp (-γ))

/-- The gate's divisor is positive. -/
theorem gate_ne (γ : ℝ) : 1 + Real.exp (-γ) ≠ 0 := by positivity

/-- ONE ENTRY OF THE RESULT: head `h`'s output at position `t` of sequence `b`, divided by the root of its mean square over the
    head (a small number added), times the head's gain, times the gate. -/
def outV (g : (⟨2, ![16, 512]⟩ : Shape).Idx → EReal) (b : ℕ) (t : ℕ) (h : Fin 16) (e : Fin 512) : EReal :=
  ((siluR (gF x b h t e) : ℝ) : EReal) *
    (((oF x b h t e : ℝ) : EReal) *
        Ideal.rsqrt (Ideal.div (∑ e' : Fin 512, ((oF x b h t e' : ℝ) : EReal) * ((oF x b h t e' : ℝ) : EReal)) (Ideal.ofBits .f32 0x44000000#32)
          + Ideal.ofBits .f32 0x358637BD#32)
      * g (ix2 h e))

/-- THE RESULT as one function of the projection and the gains: row `r` is position `r % 4096` of sequence `r / 4096`, column
    `c` is coordinate `c % 512` of head `c / 512`. -/
def retV (g : (⟨2, ![16, 512]⟩ : Shape).Idx → EReal) : (⟨2, ![16384, 8192]⟩ : Shape).Idx → EReal := fun j =>
  outV x g ((j 0).val / 4096) ((j 0).val % 4096) ⟨(j 1).val / 512, by have : (j 1).val < 8192 := (j 1).isLt; omega⟩ ⟨(j 1).val % 512, by omega⟩

end Cert.Ret

end
-- ==== Proof.KerChunk.lean ====
/-
  One chunk of the kernel's body: its outputs, the state it leaves and the rows it stores, first as terms of the body's own
  payloads (the four chunks of a block are the same terms), then over the real numbers.
-/
module

public import proofs.«01_k».proof.Proof.Gen.KernelIdeal.Skeleton
public import proofs.«01_k».proof.Proof.RetProj

@[expose] public section

set_option maxRecDepth 16384

noncomputable section

namespace Cert.RetKer

open Idealize.ShloMosaic Cert.KernelIdeal Cert.KernelIdeal.Gen Cert.Ret

section terms

variable {F : FTy → Type} [FloatOps F]
variable (c s : Vec F S256x128 .f32) (q k : Vec F S256x256 .bf16) (v gate : Vec F S256x512 .bf16) (D : Vec F S1x256x256 .f32)
  (ξ ζ : Vec F S1x256x1 .f32) (γ hg : Vec F S1x1x512 .f32) (R : Vec F S256x512 .f32) (o : FVec F S256x512 .f32)

/-- A chunk's outputs before the head norm. -/
def chunkO : FVec F S256x512 .f32 := k0_pay18 (k0_pay15 c s q) (k0_pay16 c s k) v (k0_pay17 c s q) D R ξ
/-- The state a chunk leaves. -/
def chunkS : FVec F S256x512 .f32 := k0_pay19 (k0_pay16 c s k) v R ζ γ
/-- The rows a chunk stores, of its outputs. -/
def chunkN : FVec F S256x512 .bf16 := k0_pay34 o hg gate

theorem state0 : k0_pay9 (k0_pay7 c s k) v R ζ γ = chunkS c s k v ζ γ R := rfl
theorem state2 : k0_pay33 (k0_pay23 c) (k0_pay28 k) (k0_pay29 c s k) (k0_pay30 s k) v R ζ γ = chunkS c s k v ζ γ R := rfl
theorem state3 : k0_pay1 v R (k0_pay40 (k0_pay35 c) (k0_pay36 s) k ζ) (k0_pay41 γ) = chunkS c s k v ζ γ R := rfl
theorem rows0 : k0_pay12 (k0_pay10 (k0_pay6 c s q) v (k0_pay8 c s q k D) R ξ) (k0_pay11 hg) gate = chunkN gate hg (chunkO c s q k v D ξ R) := rfl
theorem rows1 : k0_pay22 (k0_pay18 (k0_pay15 c s q) (k0_pay16 c s k) v (k0_pay17 c s q) D R ξ) (k0_pay20 (k0_pay15 c s q) (k0_pay16 c s k) v (k0_pay17 c s q) D R ξ)
    k0_pay21 hg gate = chunkN gate hg (chunkO c s q k v D ξ R) := rfl
theorem rows2 : k0_pay34 (k0_pay32 (k0_pay23 c) (k0_pay25 c s q) (k0_pay28 k) (k0_pay29 c s k) (k0_pay30 s k) v D R ξ) hg gate
    = chunkN gate hg (chunkO c s q k v D ξ R) := rfl
theorem rows3 : k0_pay2 (k0_pay39 (k0_pay35 c) (k0_pay36 s) (k0_pay37 c s q) k v D R ξ) hg gate = chunkN gate hg (chunkO c s q k v D ξ R) := rfl

end terms

variable {c s : Vec Ideal S256x128 .f32} {q k : Vec Ideal S256x256 .bf16} {v gate : Vec Ideal S256x512 .bf16} {D : Vec Ideal S1x256x256 .f32}
  {ξ ζ : Vec Ideal S1x256x1 .f32} {γ hg : Vec Ideal S1x1x512 .f32} {R : Vec Ideal S256x512 .f32} {o : FVec Ideal S256x512 .f32}

/-- WHAT A CHUNK READS: the tables and the projection's rows for the 256 positions from `n` on, of head `h` of sequence `b`. -/
structure Reads (x : Proj) (b h n : ℕ) (c s : Vec Ideal S256x128 .f32) (q k : Vec Ideal S256x256 .bf16) (v gate : Vec Ideal S256x512 .bf16)
    (D : Vec Ideal S1x256x256 .f32) (ξ ζ : Vec Ideal S1x256x1 .f32) (γ : Vec Ideal S1x1x512 .f32) : Prop where
  cos : ∀ (i : Fin 256) (j : Fin 128), c (ix2 i j) = ((cosR (n + i) j : ℝ) : EReal)
  sin : ∀ (i : Fin 256) (j : Fin 128), s (ix2 i j) = ((sinR (n + i) j : ℝ) : EReal)
  qs : ∀ (i d : Fin 256), q (ix2 i d) = ((pr x (4096 * b + (n + i)) (256 * h + d) : ℝ) : EReal)
  ks : ∀ (i d : Fin 256), k (ix2 i d) = ((pr x (4096 * b + (n + i)) (4096 + 256 * h + d) : ℝ) : EReal)
  vs : ∀ (i : Fin 256) (e : Fin 512), v (ix2 i e) = ((vF x b h (n + i) e : ℝ) : EReal)
  gates : ∀ (i : Fin 256) (e : Fin 512), gate (ix2 i e) = ((gF x b h (n + i) e : ℝ) : EReal)
  decay : ∀ (i j : Fin 256), D (ix3 0 i j) = ((decayR (ellR h) i j : ℝ) : EReal)
  xi : ∀ (i : Fin 256), ξ (ix3 0 i 0) = ((Real.exp (((i : ℝ) + 1) * ellR h) : ℝ) : EReal)
  zeta : ∀ (i : Fin 256), ζ (ix3 0 i 0) = ((Real.exp ((255 - (i : ℝ)) * ellR h) : ℝ) : EReal)
  whole : ∀ (e : Fin 512), γ (ix3 0 0 e) = ((Real.exp (256 * ellR h) : ℝ) : EReal)

variable {x : Proj} {b h n : ℕ}

/-- The rotated queries. -/
theorem rotq_at (hr : Reads x b h n c s q k v gate D ξ ζ γ) (i d : Fin 256) :
    k0_pay15 (F := Ideal) c s q (ix2 i d) = ((qF x b h (n + i) d : ℝ) : EReal) := by
  unfold k0_pay15
  pointwise [k0_pay13, k0_pay14]
  unfold qF rotR
  by_cases hd : (d : ℕ) < 128
  · rw [dif_pos hd, if_pos hd, hr.qs, hr.qs, hr.cos, hr.sin]
    norm_cast
  · rw [dif_neg hd, if_neg hd, hr.qs, hr.qs, hr.cos, hr.sin]
    have : 128 + ((d : ℕ) - 128) = d := by omega
    simp only [this]
    norm_cast

/-- The rotated keys, scaled. -/
theorem rotk_at (hr : Reads x b h n c s q k v gate D ξ ζ γ) (i d : Fin 256) :
    k0_pay16 (F := Ideal) c s k (ix2 i d) = ((kF x b h (n + i) d : ℝ) : EReal) := by
  unfold k0_pay16
  pointwise [k0_pay13, k0_pay14]
  unfold kF rotR
  rw [lit_sixteenth]
  by_cases hd : (d : ℕ) < 128
  · rw [dif_pos hd, if_pos hd, hr.ks, hr.ks, hr.cos, hr.sin]
    norm_cast
  · rw [dif_neg hd, if_neg hd, hr.ks, hr.ks, hr.cos, hr.sin]
    have : 128 + ((d : ℕ) - 128) = d := by omega
    simp only [this]
    norm_cast

/-- THE STATE A CHUNK LEAVES: from the state before position `n`, the state before `n + 256`. -/
theorem chunkS_at (hr : Reads x b h n c s q k v gate D ξ ζ γ) (hR : ∀ d e, R (ix2 d e) = ((stF x b h n d e : ℝ) : EReal))
    (d : Fin 256) (e : Fin 512) : chunkS (F := Ideal) c s k v ζ γ R (ix2 d e) = ((stF x b h (n + 256) d e : ℝ) : EReal) := by
  unfold chunkS k0_pay19
  pointwise []
  simp only [rotk_at hr, hr.vs, hr.zeta, hr.whole, hR]
  simp only [← EReal.coe_mul, ← coe_sum, ← EReal.coe_add]
  rw [stF, stF, stateR_add]
  norm_num

/-- A CHUNK'S OUTPUTS, from the state before it. -/
theorem chunkO_at (hr : Reads x b h n c s q k v gate D ξ ζ γ) (hR : ∀ d e, R (ix2 d e) = ((stF x b h n d e : ℝ) : EReal))
    (i : Fin 256) (e : Fin 512) : chunkO (F := Ideal) c s q k v D ξ R (ix2 i e) = ((oF x b h (n + i) e : ℝ) : EReal) := by
  unfold chunkO k0_pay18 k0_pay17
  pointwise []
  simp only [rotq_at hr, rotk_at hr, hr.vs, hr.xi, hr.decay, hR]
  simp only [← EReal.coe_mul, ← coe_sum, ← EReal.coe_add]
  rw [oF, outR_chunk _ _ _ _ n 256 i i.isLt]
  rfl

/-- THE ROWS A CHUNK STORES: the head norm of its outputs, gated. -/
theorem chunkN_at (hr : Reads x b h n c s q k v gate D ξ ζ γ) (hR : ∀ d e, R (ix2 d e) = ((stF x b h n d e : ℝ) : EReal))
    {g : (⟨2, ![16, 512]⟩ : Shape).Idx → EReal} (hh : h < 16) (hG : ∀ e : Fin 512, hg (ix3 0 0 e) = g (ix2 ⟨h, hh⟩ e)) (i : Fin 256) (e : Fin 512) :
    chunkN (F := Ideal) gate hg (chunkO c s q k v D ξ R) (ix2 i e) = outV x g b (n + i) ⟨h, hh⟩ e := by
  unfold chunkN k0_pay34
  pointwise []
  simp only [chunkO_at hr hR, hr.gates, hG]
  have hsilu (y : ℝ) : Ideal.div (y : EReal) (1 + Ideal.exp (0 - (y : EReal))) = ((siluR y : ℝ) : EReal) := by
    rw [zero_sub, ← EReal.coe_neg, exp_coe, ← EReal.coe_one, ← EReal.coe_add, div_coe _ _ (gate_ne y)]
    rfl
  rw [hsilu]
  rfl

end Cert.RetKer

end
-- ==== Proof.KerPoint.lean ====
/-
  One grid point of the kernel: the block it writes and the state it leaves are the four chunks' terms, one after another.
-/
module

public import proofs.«01_k».proof.Proof.Gen.KernelIdeal.Value
public import proofs.«01_k».proof.Proof.KerChunk
public import Idealize.ShloMosaic.Lib.Pipeline.ValueKit
public import Idealize.ShloMosaic.Lib.Pipeline.ReadBack

@[expose] public section

set_option maxRecDepth 16384

noncomputable section

namespace Cert.RetKer

open Idealize.ShloMosaic Idealize.ShloMosaic.TcCoe Cert.KernelIdeal Cert.KernelIdeal.Gen Cert.Ret

/-- Rows `256 p … 256 p + 255` of a block of 1024. -/
def rowsAt {n : ℕ} {e : EltTy} (X : (⟨2, ![1024, n]⟩ : Shape).Idx → Elt Ideal e) (p : ℕ) : (⟨2, ![256, n]⟩ : Shape).Idx → Elt Ideal e :=
  fun j => X (ix2 ⟨(256 * p + (j 0 : Fin 256).val) % 1024, Nat.mod_lt _ (by norm_num)⟩ (j 1))

/-- A chunk's load of its rows is `rowsAt`. -/
theorem ld_rows {n : ℕ} {e : EltTy} (X : (⟨2, ![1024, n]⟩ : Shape).Idx → Elt Ideal e) (o p : ℕ) (ho : o = 256 * p) (hp : p < 4)
    (inb : ∀ a, ![o, 0] a + ![256, n] a ≤ (⟨2, ![1024, n]⟩ : Shape).size a) :
    View.ld X (Rect.unit (s := ⟨2, ![1024, n]⟩) ![o, 0] ![256, n] inb) = rowsAt X p := by
  funext j
  have hj : (j 0 : Fin 256).val < 256 := (j 0 : Fin 256).isLt
  show X _ = X _
  congr 1
  funext a
  fin_cases a
  · apply Fin.ext
    show o + 1 * (j 0 : Fin 256).val = (256 * p + (j 0 : Fin 256).val) % 1024
    omega
  · apply Fin.ext
    show 0 + 1 * (j 1 : Fin n).val = (j 1 : Fin n).val
    omega

section point

variable (x0 x1 : Vec Ideal S1024x256 .bf16) (x2 x3 : Vec Ideal S1024x512 .bf16) (x4 x5 : Vec Ideal S1024x128 .f32)
  (x6 : Vec Ideal S1x256x256 .f32) (x7 x8 : Vec Ideal S1x256x1 .f32) (x9 x10 : Vec Ideal S1x1x512 .f32) (R : Vec Ideal S256x512 .f32)

/-- The state before chunk `p` of a block, from the state the block starts with. -/
def stateB : ℕ → Vec Ideal S256x512 .f32
  | 0 => R
  | p + 1 => chunkS (F := Ideal) (rowsAt x4 p) (rowsAt x5 p) (rowsAt x1 p) (rowsAt x2 p) x8 x9 (stateB p)

/-- The rows chunk `p` of a block stores. -/
def rowsB (p : ℕ) : Vec Ideal S256x512 .bf16 :=
  chunkN (F := Ideal) (rowsAt x3 p) x10 (chunkO (rowsAt x4 p) (rowsAt x5 p) (rowsAt x0 p) (rowsAt x1 p) (rowsAt x2 p) x6 x7
    (stateB x1 x2 x4 x5 x8 x9 R p))

/-- The block a point stores. -/
def blockB : Vec Ideal S1024x512 .bf16 := fun y =>
  rowsB x0 x1 x2 x3 x4 x5 x6 x7 x8 x9 x10 R ((y 0 : Fin 1024).val / 256) (ix2 ⟨(y 0 : Fin 1024).val % 256, Nat.mod_lt _ (by norm_num)⟩ (y 1))

variable {x0 x1 x2 x3 x4 x5 x6 x7 x8 x9 x10 R}

/-- A block of 1024 rows at an entry of the 256 rows from `o = 256 p` on. -/
theorem blockB_emb (o p : ℕ) (ho : o = 256 * p) (inb : ∀ a, ![o, 0] a + ![256, 512] a ≤ S1024x512.size a)
    (x : (Rect.unit (s := S1024x512) ![o, 0] ![256, 512] inb).shape.Idx) :
    blockB x0 x1 x2 x3 x4 x5 x6 x7 x8 x9 x10 R ((Rect.unit (s := S1024x512) ![o, 0] ![256, 512] inb).emb x)
      = rowsB x0 x1 x2 x3 x4 x5 x6 x7 x8 x9 x10 R p x := by
  have h0 : ((((Rect.unit (s := S1024x512) ![o, 0] ![256, 512] inb).emb x) 0 : Fin 1024) : ℕ) = o + (x 0 : Fin 256).val := by
    show o + 1 * (x 0 : Fin 256).val = _; omega
  have h1 : ((((Rect.unit (s := S1024x512) ![o, 0] ![256, 512] inb).emb x) 1 : Fin 512) : ℕ) = (x 1 : Fin 512).val := by
    show 0 + 1 * (x 1 : Fin 512).val = _; omega
  have hx : (x 0 : Fin 256).val < 256 := (x 0 : Fin 256).isLt
  have hp : ((((Rect.unit (s := S1024x512) ![o, 0] ![256, 512] inb).emb x) 0 : Fin 1024) : ℕ) / 256 = p := by rw [h0]; omega
  show rowsB x0 x1 x2 x3 x4 x5 x6 x7 x8 x9 x10 R _ _ = _
  rw [hp]
  congr 1
  funext a
  fin_cases a
  · apply Fin.ext; show (_ % 256 : ℕ) = (x 0 : Fin 256).val; rw [h0]; omega
  · exact Fin.ext h1

/-- FOUR STORES OF 256 ROWS, each the rows its chunk computes, leave the block. -/
theorem canon4 (w0 w1 w2 w3 : Vec Ideal S256x512 .bf16)
    (i0 i1 i2 i3)
    (h0 : w0 = rowsB x0 x1 x2 x3 x4 x5 x6 x7 x8 x9 x10 R 0) (h1 : w1 = rowsB x0 x1 x2 x3 x4 x5 x6 x7 x8 x9 x10 R 1)
    (h2 : w2 = rowsB x0 x1 x2 x3 x4 x5 x6 x7 x8 x9 x10 R 2) (h3 : w3 = rowsB x0 x1 x2 x3 x4 x5 x6 x7 x8 x9 x10 R 3) (y : S1024x512.Idx) :
    View.canon (Val := Elt Ideal) (e := .bf16) [⟨Rect.unit (s := S1024x512) ![768, 0] ![256, 512] i3, w3⟩, ⟨Rect.unit ![512, 0] ![256, 512] i2, w2⟩, ⟨Rect.unit ![256, 0] ![256, 512] i1, w1⟩,
      ⟨Rect.unit ![0, 0] ![256, 512] i0, w0⟩] y = blockB x0 x1 x2 x3 x4 x5 x6 x7 x8 x9 x10 R y := by
  have hy : (y 0 : Fin 1024).val < 1024 := (y 0 : Fin 1024).isLt
  have hy1 : (y 1 : Fin 512).val < 512 := (y 1 : Fin 512).isLt
  have := View.canon_append_of_piecesOf (Val := Elt Ideal) (e := .bf16) (blockB x0 x1 x2 x3 x4 x5 x6 x7 x8 x9 x10 R) []
    [⟨Rect.unit (s := S1024x512) ![768, 0] ![256, 512] i3, w3⟩, ⟨Rect.unit ![512, 0] ![256, 512] i2, w2⟩, ⟨Rect.unit ![256, 0] ![256, 512] i1, w1⟩,
      ⟨Rect.unit ![0, 0] ![256, 512] i0, w0⟩]
    ⟨fun x => by rw [blockB_emb 768 3 rfl, h3], fun x => by rw [blockB_emb 512 2 rfl, h2],
      fun x => by rw [blockB_emb 256 1 rfl, h1], fun x => by rw [blockB_emb 0 0 rfl, h0], trivial⟩ y ?_
  · rwa [List.append_nil] at this
  · have hc : ∀ (o : ℕ) (inb), o ≤ (y 0 : Fin 1024).val → (y 0 : Fin 1024).val < o + 256 → y ∈ (Rect.unit (s := S1024x512) ![o, 0] ![256, 512] inb).set := by
      intro o inb ha hb
      rw [Rect.mem_set_unit]
      intro a
      fin_cases a
      · exact ⟨ha, hb⟩
      · exact ⟨Nat.zero_le _, by simpa using hy1⟩
    by_cases g1 : (y 0 : Fin 1024).val < 256
    · exact ⟨_, List.mem_cons_of_mem _ (List.mem_cons_of_mem _ (List.mem_cons_of_mem _ List.mem_cons_self)), hc 0 i0 (by omega) (by omega)⟩
    by_cases g2 : (y 0 : Fin 1024).val < 512
    · exact ⟨_, List.mem_cons_of_mem _ (List.mem_cons_of_mem _ List.mem_cons_self), hc 256 i1 (by omega) (by omega)⟩
    by_cases g3 : (y 0 : Fin 1024).val < 768
    · exact ⟨_, List.mem_cons_of_mem _ List.mem_cons_self, hc 512 i2 (by omega) (by omega)⟩
    · exact ⟨_, List.mem_cons_self, hc 768 i3 (by omega) (by omega)⟩

end point

variable (m : (ℓ : Loc nD τ sig) → Buf (Elt Ideal) ℓ) (c : Dev nD)

/-- THE STATE a point that goes on with a head leaves. -/
theorem sout_B (t : Fin cfg0.N) (h0 : ¬t.val % 4 = 0) : (outsAt0 m c t.val t.isLt).2
    = stateB (iblk m c 1 t) (iblk m c 2 t) (iblk m c 4 t) (iblk m c 5 t) (iblk m c 8 t) (iblk m c 9 t)
        (outsAt0 m c (t.val - 1) (Nat.lt_of_le_of_lt (Nat.sub_le _ _) t.isLt)).2 4 := by
  rw [outsAt0_B m c t h0]
  frame_open
  simp (disch := decide) only [↓ View.readCov_skip, ↓ View.readCov_cons_toLoadRect, ↓ View.readCov_fill]
  frame_out
  simp only [read_unread_whole]
  rw [state0, state2, state3]
  simp only [stateB]
  simp only [← ld_rows _ 0 0 rfl (by norm_num) inb_S1024x128_S256x128_0_0, ← ld_rows _ 256 1 rfl (by norm_num) inb_S1024x128_S256x128_256_0, ← ld_rows _ 512 2 rfl (by norm_num) inb_S1024x128_S256x128_512_0, ← ld_rows _ 768 3 rfl (by norm_num) inb_S1024x128_S256x128_768_0]
  simp only [← ld_rows _ 0 0 rfl (by norm_num) inb_S1024x256_S256x256_0_0, ← ld_rows _ 256 1 rfl (by norm_num) inb_S1024x256_S256x256_256_0, ← ld_rows _ 512 2 rfl (by norm_num) inb_S1024x256_S256x256_512_0, ← ld_rows _ 768 3 rfl (by norm_num) inb_S1024x256_S256x256_768_0]
  simp only [← ld_rows _ 0 0 rfl (by norm_num) inb_S1024x512_S256x512_0_0, ← ld_rows _ 256 1 rfl (by norm_num) inb_S1024x512_S256x512_256_0, ← ld_rows _ 512 2 rfl (by norm_num) inb_S1024x512_S256x512_512_0, ← ld_rows _ 768 3 rfl (by norm_num) inb_S1024x512_S256x512_768_0]
  rfl

/-- THE STATE a head's first point leaves: from the cleared state. -/
theorem sout_A (t : Fin cfg0.N) (h0 : t.val % 4 = 0) : (outsAt0 m c t.val t.isLt).2
    = stateB (iblk m c 1 t) (iblk m c 2 t) (iblk m c 4 t) (iblk m c 5 t) (iblk m c 8 t) (iblk m c 9 t)
        (k0_pay3 (F := Ideal)) 4 := by
  rw [outsAt0_A m c t h0]
  frame_open
  simp (disch := decide) only [↓ View.readCov_skip, ↓ View.readCov_cons_toLoadRect, ↓ View.readCov_fill]
  frame_out
  rw [state0, state2, state3]
  simp only [stateB]
  simp only [← ld_rows _ 0 0 rfl (by norm_num) inb_S1024x128_S256x128_0_0, ← ld_rows _ 256 1 rfl (by norm_num) inb_S1024x128_S256x128_256_0, ← ld_rows _ 512 2 rfl (by norm_num) inb_S1024x128_S256x128_512_0, ← ld_rows _ 768 3 rfl (by norm_num) inb_S1024x128_S256x128_768_0]
  simp only [← ld_rows _ 0 0 rfl (by norm_num) inb_S1024x256_S256x256_0_0, ← ld_rows _ 256 1 rfl (by norm_num) inb_S1024x256_S256x256_256_0, ← ld_rows _ 512 2 rfl (by norm_num) inb_S1024x256_S256x256_512_0, ← ld_rows _ 768 3 rfl (by norm_num) inb_S1024x256_S256x256_768_0]
  simp only [← ld_rows _ 0 0 rfl (by norm_num) inb_S1024x512_S256x512_0_0, ← ld_rows _ 256 1 rfl (by norm_num) inb_S1024x512_S256x512_256_0, ← ld_rows _ 512 2 rfl (by norm_num) inb_S1024x512_S256x512_512_0, ← ld_rows _ 768 3 rfl (by norm_num) inb_S1024x512_S256x512_768_0]
  rfl

/-- THE BLOCK a point that goes on with a head stores. -/
theorem out_B (t : Fin cfg0.N) (h0 : ¬t.val % 4 = 0) : (outsAt0 m c t.val t.isLt).1
    = blockB (iblk m c 0 t) (iblk m c 1 t) (iblk m c 2 t) (iblk m c 3 t) (iblk m c 4 t) (iblk m c 5 t) (iblk m c 6 t) (iblk m c 7 t) (iblk m c 8 t) (iblk m c 9 t) (iblk m c 10 t)
        (outsAt0 m c (t.val - 1) (Nat.lt_of_le_of_lt (Nat.sub_le _ _) t.isLt)).2 := by
  rw [outsAt0_B m c t h0]
  frame_open
  simp (disch := decide) only [↓ View.readCov_skip, ↓ View.readCov_cons_toLoadRect, ↓ View.readCov_fill]
  frame_out
  simp only [read_unread_whole]
  rw [rows0, rows1, rows2, rows3, state0, state2]
  funext y
  refine canon4 _ _ _ _ _ _ _ _ ?_ ?_ ?_ ?_ y
  all_goals
    simp only [rowsB, stateB]
    simp only [← ld_rows _ 0 0 rfl (by norm_num) inb_S1024x128_S256x128_0_0, ← ld_rows _ 256 1 rfl (by norm_num) inb_S1024x128_S256x128_256_0, ← ld_rows _ 512 2 rfl (by norm_num) inb_S1024x128_S256x128_512_0, ← ld_rows _ 768 3 rfl (by norm_num) inb_S1024x128_S256x128_768_0]
    simp only [← ld_rows _ 0 0 rfl (by norm_num) inb_S1024x256_S256x256_0_0, ← ld_rows _ 256 1 rfl (by norm_num) inb_S1024x256_S256x256_256_0, ← ld_rows _ 512 2 rfl (by norm_num) inb_S1024x256_S256x256_512_0, ← ld_rows _ 768 3 rfl (by norm_num) inb_S1024x256_S256x256_768_0]
    simp only [← ld_rows _ 0 0 rfl (by norm_num) inb_S1024x512_S256x512_0_0, ← ld_rows _ 256 1 rfl (by norm_num) inb_S1024x512_S256x512_256_0, ← ld_rows _ 512 2 rfl (by norm_num) inb_S1024x512_S256x512_512_0, ← ld_rows _ 768 3 rfl (by norm_num) inb_S1024x512_S256x512_768_0]
    try rfl

/-- THE BLOCK a head's first point stores. -/
theorem out_A (t : Fin cfg0.N) (h0 : t.val % 4 = 0) : (outsAt0 m c t.val t.isLt).1
    = blockB (iblk m c 0 t) (iblk m c 1 t) (iblk m c 2 t) (iblk m c 3 t) (iblk m c 4 t) (iblk m c 5 t) (iblk m c 6 t) (iblk m c 7 t) (iblk m c 8 t) (iblk m c 9 t) (iblk m c 10 t)
        (k0_pay3 (F := Ideal)) := by
  rw [outsAt0_A m c t h0]
  frame_open
  simp (disch := decide) only [↓ View.readCov_skip, ↓ View.readCov_cons_toLoadRect, ↓ View.readCov_fill]
  frame_out
  rw [rows0, rows1, rows2, rows3, state0, state2]
  funext y
  refine canon4 _ _ _ _ _ _ _ _ ?_ ?_ ?_ ?_ y
  all_goals
    simp only [rowsB, stateB]
    simp only [← ld_rows _ 0 0 rfl (by norm_num) inb_S1024x128_S256x128_0_0, ← ld_rows _ 256 1 rfl (by norm_num) inb_S1024x128_S256x128_256_0, ← ld_rows _ 512 2 rfl (by norm_num) inb_S1024x128_S256x128_512_0, ← ld_rows _ 768 3 rfl (by norm_num) inb_S1024x128_S256x128_768_0]
    simp only [← ld_rows _ 0 0 rfl (by norm_num) inb_S1024x256_S256x256_0_0, ← ld_rows _ 256 1 rfl (by norm_num) inb_S1024x256_S256x256_256_0, ← ld_rows _ 512 2 rfl (by norm_num) inb_S1024x256_S256x256_512_0, ← ld_rows _ 768 3 rfl (by norm_num) inb_S1024x256_S256x256_768_0]
    simp only [← ld_rows _ 0 0 rfl (by norm_num) inb_S1024x512_S256x512_0_0, ← ld_rows _ 256 1 rfl (by norm_num) inb_S1024x512_S256x512_256_0, ← ld_rows _ 512 2 rfl (by norm_num) inb_S1024x512_S256x512_512_0, ← ld_rows _ 768 3 rfl (by norm_num) inb_S1024x512_S256x512_768_0]
    try rfl

end Cert.RetKer

end
-- ==== Proof.KerTables.lean ====
/-
  What the host lays out before the launch, at an index: the rotary tables, the in-chunk decay matrix and the chunk decays are
  the real numbers of RetScalar, for chunks of 256 positions.
-/
module

public import proofs.«01_k».proof.Proof.Gen.KernelIdeal.Frame.Runs
public import proofs.«01_k».proof.Proof.RetScalar
public import Idealize.ShloMosaic.Lib.StableHlo.ReadAt

@[expose] public section

set_option maxRecDepth 16384

noncomputable section

namespace Cert.RetKer

open Idealize.ShloMosaic Idealize.ShloMosaic.TcCoe Cert.KernelIdeal Cert.KernelIdeal.Gen Cert.Ret

variable (m : (ℓ : Loc nD τ sig) → Buf (Elt Ideal) ℓ) (c : Dev nD)

/-- The zero a masked entry gets. -/
theorem id_zero : id (constant (F := Ideal) S_ .f32 0#32) ix0 = (0 : EReal) := Ideal.ofBits_zero_f32

/-- The cosines. -/
theorem V_cos (t : Fin 4096) (j : Fin 128) : (V m c main_v17 : Vec Ideal S4096x128 .f32) (ix2 t j) = ((cosR t j : ℝ) : EReal) := by
  unfold V
  after_reads_at
  rw [inv_coe j (by norm_num), sitofp_fin t (by norm_num), ← EReal.coe_mul, cos_coe]; rfl

/-- The sines. -/
theorem V_sin (t : Fin 4096) (j : Fin 128) : (V m c main_v18 : Vec Ideal S4096x128 .f32) (ix2 t j) = ((sinR t j : ℝ) : EReal) := by
  unfold V
  after_reads_at
  rw [inv_coe j (by norm_num), sitofp_fin t (by norm_num), ← EReal.coe_mul, sin_coe]; rfl

/-- The decays inside a chunk. -/
theorem V_dmat (h : Fin 16) (i j : Fin 256) : (V m c main_v43 : Vec Ideal S16x256x256 .f32) (ix3 h i j) = ((decayR (ellR h) i j : ℝ) : EReal) := by
  unfold V
  after_reads_at
  rw [ell_coe h (by norm_num), id_zero]
  exact decay_coe i j (by norm_num) _

/-- The decay from a chunk's start to its position `i`, one more step included. -/
theorem V_xi (h : Fin 16) (i : Fin 256) (z : Fin 1) : (V m c main_v52 : Vec Ideal S16x256x1 .f32) (ix3 h i z) = ((Real.exp (((i : ℝ) + 1) * ellR h) : ℝ) : EReal) := by
  unfold V
  after_reads_at
  rw [ell_coe h (by norm_num), sitofp_fin i (by norm_num), ← EReal.coe_one, ← EReal.coe_add, ← EReal.coe_mul, exp_coe]

/-- The decay from a chunk's position `i` to its last. -/
theorem V_zeta (h : Fin 16) (i : Fin 256) (z : Fin 1) : (V m c main_v61 : Vec Ideal S16x256x1 .f32) (ix3 h i z) = ((Real.exp ((255 - (i : ℝ)) * ellR h) : ℝ) : EReal) := by
  unfold V
  after_reads_at
  rw [ell_coe h (by norm_num), sitofp_fin i (by norm_num), lit_255, ← EReal.coe_sub, ← EReal.coe_mul, exp_coe]

/-- The decay over a whole chunk. -/
theorem V_gch (h : Fin 16) (z : Fin 1) (e : Fin 512) : (V m c main_v66 : Vec Ideal S16x1x512 .f32) (ix3 h z e) = ((Real.exp (256 * ellR h) : ℝ) : EReal) := by
  unfold V
  after_reads_at
  rw [ell_coe h (by norm_num), lit_256, ← EReal.coe_mul, exp_coe]

/-- The head norms' gains. -/
theorem V_hg (h : Fin 16) (z : Fin 1) (e : Fin 512) : (V m c main_v67 : Vec Ideal S16x1x512 .f32) (ix3 h z e) = (m ((c : Thread nD τ).loc main_arg1) : Vec Ideal S16x512 .f32) (ix2 h e) := by
  unfold V
  after_reads_at

end Cert.RetKer

end
-- ==== Proof.KerBlocks.lean ====
/-
  What a grid point's blocks hold: point `t` is step `t % 4` of head `t / 4 % 16` of sequence `t / 64`, and each of its four
  chunks reads the rows and the tables its positions ask for.
-/
module

public import proofs.«01_k».proof.Proof.KerPoint
public import proofs.«01_k».proof.Proof.KerTables

@[expose] public section

set_option maxRecDepth 16384

noncomputable section

namespace Cert.RetKer

open Idealize.ShloMosaic Idealize.ShloMosaic.TcCoe Cert.KernelIdeal Cert.KernelIdeal.Gen Cert.Ret

/-- The projection's windows over the grid, and the result's. -/
theorem idx_rows : ∀ t : Fin cfg0.N,
    (win0_0.index t = ![4 * (t.val / 64) + t.val % 4, t.val / 4 % 16] ∧ win0_1.index t = ![4 * (t.val / 64) + t.val % 4, 16 + t.val / 4 % 16])
    ∧ (win0_2.index t = ![4 * (t.val / 64) + t.val % 4, 16 + t.val / 4 % 16] ∧ win0_3.index t = ![4 * (t.val / 64) + t.val % 4, 32 + t.val / 4 % 16])
    ∧ win0_11.index t = ![4 * (t.val / 64) + t.val % 4, t.val / 4 % 16] := by decide +kernel

/-- The tables' windows over the grid. -/
theorem idx_tables : ∀ t : Fin cfg0.N,
    (win0_4.index t = ![t.val % 4, 0] ∧ win0_5.index t = ![t.val % 4, 0])
    ∧ (win0_6.index t = ![t.val / 4 % 16, 0, 0] ∧ win0_7.index t = ![t.val / 4 % 16, 0, 0] ∧ win0_8.index t = ![t.val / 4 % 16, 0, 0])
    ∧ (win0_9.index t = ![t.val / 4 % 16, 0, 0] ∧ win0_10.index t = ![t.val / 4 % 16, 0, 0]) := by decide +kernel

variable (m : (ℓ : Loc nD τ sig) → Buf (Elt Ideal) ℓ) (c : Dev nD) (t : Fin cfg0.N)

/-- A point's number is below 256. -/
theorem pt_lt : t.val < 256 := lt_of_lt_of_eq t.isLt (show cfg0.N = 256 from N_0)

/-- The head of a point. -/
def headOf : Fin 16 := ⟨t.val / 4 % 16, Nat.mod_lt _ (by norm_num)⟩

/-- The queries' block. -/
theorem blk_q (r : Fin 1024) (d : Fin 256) : (iblk m c 0 t : Vec Ideal S1024x256 .bf16) (ix2 r d)
    = (m ((c : Thread nD τ).loc main_arg0) : Vec Ideal S16384x24576 .bf16) (ix2 ⟨4096 * (t.val / 64) + 1024 * (t.val % 4) + r, by have := pt_lt t; omega⟩
        ⟨256 * (t.val / 4 % 16) + d, by omega⟩) := by
  rw [← V_main_arg0 m c]
  have h := (idx_rows t).1.1
  blk_ext [iblk, h]

/-- The keys' block. -/
theorem blk_k (r : Fin 1024) (d : Fin 256) : (iblk m c 1 t : Vec Ideal S1024x256 .bf16) (ix2 r d)
    = (m ((c : Thread nD τ).loc main_arg0) : Vec Ideal S16384x24576 .bf16) (ix2 ⟨4096 * (t.val / 64) + 1024 * (t.val % 4) + r, by have := pt_lt t; omega⟩
        ⟨4096 + 256 * (t.val / 4 % 16) + d, by omega⟩) := by
  rw [← V_main_arg0 m c]
  have h := (idx_rows t).1.2
  blk_ext [iblk, h]

/-- The values' block. -/
theorem blk_v (r : Fin 1024) (e : Fin 512) : (iblk m c 2 t : Vec Ideal S1024x512 .bf16) (ix2 r e)
    = (m ((c : Thread nD τ).loc main_arg0) : Vec Ideal S16384x24576 .bf16) (ix2 ⟨4096 * (t.val / 64) + 1024 * (t.val % 4) + r, by have := pt_lt t; omega⟩
        ⟨8192 + 512 * (t.val / 4 % 16) + e, by omega⟩) := by
  rw [← V_main_arg0 m c]
  have h := (idx_rows t).2.1.1
  blk_ext [iblk, h]

/-- The gates' block. -/
theorem blk_g (r : Fin 1024) (e : Fin 512) : (iblk m c 3 t : Vec Ideal S1024x512 .bf16) (ix2 r e)
    = (m ((c : Thread nD τ).loc main_arg0) : Vec Ideal S16384x24576 .bf16) (ix2 ⟨4096 * (t.val / 64) + 1024 * (t.val % 4) + r, by have := pt_lt t; omega⟩
        ⟨16384 + 512 * (t.val / 4 % 16) + e, by omega⟩) := by
  rw [← V_main_arg0 m c]
  have h := (idx_rows t).2.1.2
  blk_ext [iblk, h]

/-- The cosines' block. -/
theorem blk_cos (r : Fin 1024) (j : Fin 128) : (iblk m c 4 t : Vec Ideal S1024x128 .f32) (ix2 r j) = ((cosR (1024 * (t.val % 4) + r) j : ℝ) : EReal) := by
  rw [show 1024 * (t.val % 4) + (r : ℕ) = ((⟨1024 * (t.val % 4) + r, by omega⟩ : Fin 4096) : ℕ) from rfl, ← V_cos m c]
  have h := (idx_tables t).1.1
  blk_ext [iblk, h]

/-- The sines' block. -/
theorem blk_sin (r : Fin 1024) (j : Fin 128) : (iblk m c 5 t : Vec Ideal S1024x128 .f32) (ix2 r j) = ((sinR (1024 * (t.val % 4) + r) j : ℝ) : EReal) := by
  rw [show 1024 * (t.val % 4) + (r : ℕ) = ((⟨1024 * (t.val % 4) + r, by omega⟩ : Fin 4096) : ℕ) from rfl, ← V_sin m c]
  have h := (idx_tables t).1.2
  blk_ext [iblk, h]

/-- The in-chunk decays' block. -/
theorem blk_dmat (i j : Fin 256) : (iblk m c 6 t : Vec Ideal S1x256x256 .f32) (ix3 0 i j) = ((decayR (ellR (t.val / 4 % 16)) i j : ℝ) : EReal) := by
  refine Eq.trans ?_ (V_dmat m c (headOf t) i j)
  have h := (idx_tables t).2.1.1
  blk_ext [iblk, h, headOf]

/-- The block of decays from a chunk's start. -/
theorem blk_xi (i : Fin 256) : (iblk m c 7 t : Vec Ideal S1x256x1 .f32) (ix3 0 i 0) = ((Real.exp (((i : ℝ) + 1) * ellR (t.val / 4 % 16)) : ℝ) : EReal) := by
  refine Eq.trans ?_ (V_xi m c (headOf t) i 0)
  have h := (idx_tables t).2.1.2.1
  blk_ext [iblk, h, headOf]

/-- The block of decays to a chunk's end. -/
theorem blk_zeta (i : Fin 256) : (iblk m c 8 t : Vec Ideal S1x256x1 .f32) (ix3 0 i 0) = ((Real.exp ((255 - (i : ℝ)) * ellR (t.val / 4 % 16)) : ℝ) : EReal) := by
  refine Eq.trans ?_ (V_zeta m c (headOf t) i 0)
  have h := (idx_tables t).2.1.2.2
  blk_ext [iblk, h, headOf]

/-- The block of whole chunks' decays. -/
theorem blk_gch (e : Fin 512) : (iblk m c 9 t : Vec Ideal S1x1x512 .f32) (ix3 0 0 e) = ((Real.exp (256 * ellR (t.val / 4 % 16)) : ℝ) : EReal) := by
  refine Eq.trans ?_ (V_gch m c (headOf t) 0 e)
  have h := (idx_tables t).2.2.1
  blk_ext [iblk, h, headOf]

/-- The gains' block. -/
theorem blk_hg (e : Fin 512) : (iblk m c 10 t : Vec Ideal S1x1x512 .f32) (ix3 0 0 e)
    = (m ((c : Thread nD τ).loc main_arg1) : Vec Ideal S16x512 .f32) (ix2 (headOf t) e) := by
  refine Eq.trans ?_ (V_hg m c (headOf t) 0 e)
  have h := (idx_tables t).2.2.2
  blk_ext [iblk, h, headOf]

/-- A chunk's rows of a block at an entry. -/
theorem rowsAt_ix {n : ℕ} {e : EltTy} (X : (⟨2, ![1024, n]⟩ : Shape).Idx → Elt Ideal e) (p : ℕ) (hp : p < 4) (i : Fin 256) (j : Fin n) :
    rowsAt X p (ix2 i j) = X (ix2 ⟨256 * p + i, by omega⟩ j) := by
  show X _ = X _
  congr 1
  have h : (256 * p + (i : ℕ)) % 1024 = 256 * p + i := Nat.mod_eq_of_lt (by omega)
  funext a
  fin_cases a
  · exact Fin.ext h
  · rfl

/-- EVERY CHUNK OF EVERY POINT READS what its positions ask for. -/
theorem reads_at (hx : Finite (m ((c : Thread nD τ).loc main_arg0))) (p : ℕ) (hp : p < 4) :
    Reads (m ((c : Thread nD τ).loc main_arg0)) (t.val / 64) (t.val / 4 % 16) (1024 * (t.val % 4) + 256 * p)
      (rowsAt (iblk m c 4 t) p) (rowsAt (iblk m c 5 t) p) (rowsAt (iblk m c 0 t) p) (rowsAt (iblk m c 1 t) p) (rowsAt (iblk m c 2 t) p) (rowsAt (iblk m c 3 t) p)
      (iblk m c 6 t) (iblk m c 7 t) (iblk m c 8 t) (iblk m c 9 t) where
  cos i j := by rw [rowsAt_ix _ p hp, blk_cos, Nat.add_assoc]
  sin i j := by rw [rowsAt_ix _ p hp, blk_sin, Nat.add_assoc]
  qs i d := by rw [rowsAt_ix _ p hp, blk_q]; exact hx.at _ _ (by show _ + _ + (256 * p + _) = _; omega) rfl
  ks i d := by rw [rowsAt_ix _ p hp, blk_k]; exact hx.at _ _ (by show _ + _ + (256 * p + _) = _; omega) rfl
  vs i e := by rw [rowsAt_ix _ p hp, blk_v]; exact hx.at _ _ (by show _ + _ + (256 * p + _) = _; omega) rfl
  gates i e := by rw [rowsAt_ix _ p hp, blk_g]; exact hx.at _ _ (by show _ + _ + (256 * p + _) = _; omega) rfl
  decay i j := blk_dmat m c t i j
  xi i := blk_xi m c t i
  zeta i := blk_zeta m c t i
  whole e := blk_gch m c t e

end Cert.RetKer

end
-- ==== Proof.KerResult.lean ====
/-
  What the kernel's result array holds: a point leaves its head's state at the end of its 1024 positions, so the next point goes
  on with it, and every block of the array is `retV`.
-/
module

public import proofs.«01_k».proof.Proof.KerBlocks
public import Idealize.ShloMosaic.Lib.Pipeline.Covers

@[expose] public section

set_option maxRecDepth 16384

noncomputable section

namespace Cert.RetKer

open Idealize.ShloMosaic Idealize.ShloMosaic.TcCoe Idealize.SL.Sem Cert.KernelIdeal Cert.KernelIdeal.Gen Cert.Ret

variable (m : (ℓ : Loc nD τ sig) → Buf (Elt Ideal) ℓ) (c : Dev nD) (t : Fin cfg0.N)

/-- THE STATE BEFORE A CHUNK of a point, from the state the point starts with. -/
theorem stateB_at (hx : Finite (m ((c : Thread nD τ).loc main_arg0))) {R : Vec Ideal S256x512 .f32}
    (hR : ∀ d e, R (ix2 d e) = ((stF (m ((c : Thread nD τ).loc main_arg0)) (t.val / 64) (t.val / 4 % 16) (1024 * (t.val % 4)) d e : ℝ) : EReal))
    (p : ℕ) (hp : p ≤ 4) (d : Fin 256) (e : Fin 512) :
    stateB (iblk m c 1 t) (iblk m c 2 t) (iblk m c 4 t) (iblk m c 5 t) (iblk m c 8 t) (iblk m c 9 t) R p (ix2 d e)
      = ((stF (m ((c : Thread nD τ).loc main_arg0)) (t.val / 64) (t.val / 4 % 16) (1024 * (t.val % 4) + 256 * p) d e : ℝ) : EReal) := by
  induction p generalizing d e with
  | zero => exact hR d e
  | succ p ih =>
    rw [show 1024 * (t.val % 4) + 256 * (p + 1) = 1024 * (t.val % 4) + 256 * p + 256 by ring]
    exact chunkS_at (reads_at m c t hx p (by omega)) (fun d e => ih (by omega) d e) d e

/-- THE BLOCK A POINT STORES, from the state it starts with. -/
theorem blockB_at (hx : Finite (m ((c : Thread nD τ).loc main_arg0))) {R : Vec Ideal S256x512 .f32}
    (hR : ∀ d e, R (ix2 d e) = ((stF (m ((c : Thread nD τ).loc main_arg0)) (t.val / 64) (t.val / 4 % 16) (1024 * (t.val % 4)) d e : ℝ) : EReal))
    (r : Fin 1024) (e : Fin 512) :
    blockB (iblk m c 0 t) (iblk m c 1 t) (iblk m c 2 t) (iblk m c 3 t) (iblk m c 4 t) (iblk m c 5 t) (iblk m c 6 t) (iblk m c 7 t) (iblk m c 8 t)
        (iblk m c 9 t) (iblk m c 10 t) R (ix2 r e)
      = outV (m ((c : Thread nD τ).loc main_arg0)) (m ((c : Thread nD τ).loc main_arg1)) (t.val / 64) (1024 * (t.val % 4) + r) (headOf t) e := by
  have hp : (r : ℕ) / 256 < 4 := by omega
  have h := chunkN_at (hg := iblk m c 10 t) (g := m ((c : Thread nD τ).loc main_arg1)) (reads_at m c t hx ((r : ℕ) / 256) hp) (fun d e => stateB_at m c t hx hR _ hp.le d e)
    (headOf t).isLt (fun e => blk_hg m c t e) ⟨(r : ℕ) % 256, Nat.mod_lt _ (by norm_num)⟩ e
  have hn : 1024 * (t.val % 4) + 256 * ((r : ℕ) / 256) + (r : ℕ) % 256 = 1024 * (t.val % 4) + r := by omega
  rw [show ((⟨(r : ℕ) % 256, Nat.mod_lt _ (by norm_num)⟩ : Fin 256) : ℕ) = (r : ℕ) % 256 from rfl, hn] at h
  exact h

/-- The cleared state. -/
theorem cleared_at (d : Fin 256) (e : Fin 512) : (k0_pay3 (F := Ideal)) (ix2 d e) = (0 : EReal) := by
  pointwise [k0_pay3]

/-- THE STATE A POINT STARTS WITH is its head's state before its positions: cleared at a head's first point, else the last point's. -/
theorem carried_at (hx : Finite (m ((c : Thread nD τ).loc main_arg0))) : ∀ (n : ℕ) (hn : n < cfg0.N) (d : Fin 256) (e : Fin 512),
    (outsAt0 m c n hn).2 (ix2 d e)
      = ((stF (m ((c : Thread nD τ).loc main_arg0)) (n / 64) (n / 4 % 16) (1024 * (n % 4) + 1024) d e : ℝ) : EReal) := by
  intro n
  induction n using Nat.strong_induction_on with
  | _ n ih =>
    intro hn d e
    by_cases h0 : n % 4 = 0
    · rw [show (outsAt0 m c n hn).2 = _ from sout_A m c ⟨n, hn⟩ h0]
      refine stateB_at m c ⟨n, hn⟩ hx (fun d e => ?_) 4 le_rfl d e
      rw [cleared_at]
      show (0 : EReal) = ((stF _ _ _ (1024 * (n % 4)) d e : ℝ) : EReal)
      rw [h0]
      simp only [stF, Nat.mul_zero, stateR_zero]
      norm_cast
    · rw [show (outsAt0 m c n hn).2 = _ from sout_B m c ⟨n, hn⟩ h0]
      refine stateB_at m c ⟨n, hn⟩ hx (fun d e => ?_) 4 le_rfl d e
      have h := ih (n - 1) (by omega) (Nat.lt_of_le_of_lt (Nat.sub_le _ _) hn) d e
      rw [show (n - 1) / 64 = n / 64 by omega, show (n - 1) / 4 % 16 = n / 4 % 16 by omega, show 1024 * ((n - 1) % 4) + 1024 = 1024 * (n % 4) by omega] at h
      exact h

/-- EVERY POINT'S BLOCK. -/
theorem out_at (hx : Finite (m ((c : Thread nD τ).loc main_arg0))) (r : Fin 1024) (e : Fin 512) :
    (outsAt0 m c t.val t.isLt).1 (ix2 r e)
      = outV (m ((c : Thread nD τ).loc main_arg0)) (m ((c : Thread nD τ).loc main_arg1)) (t.val / 64) (1024 * (t.val % 4) + r) (headOf t) e := by
  by_cases h0 : t.val % 4 = 0
  · rw [out_A m c t h0]
    refine blockB_at m c t hx (fun d e => ?_) r e
    rw [cleared_at, h0]
    simp only [stF, Nat.mul_zero, stateR_zero]
    norm_cast
  · rw [out_B m c t h0]
    refine blockB_at m c t hx (fun d e => ?_) r e
    have h := carried_at m c hx (t.val - 1) (Nat.lt_of_le_of_lt (Nat.sub_le _ _) t.isLt) d e
    rw [show (t.val - 1) / 64 = t.val / 64 by omega, show (t.val - 1) / 4 % 16 = t.val / 4 % 16 by omega,
      show 1024 * ((t.val - 1) % 4) + 1024 = 1024 * (t.val % 4) by omega] at h
    exact h

/-- THE RESULT ARRAY after the run. -/
theorem array_eq (hx : Finite (m ((c : Thread nD τ).loc main_arg0))) :
    (dats m 0 c).arrAt 11 cfg0.N = retV (m ((c : Thread nD τ).loc main_arg0)) (m ((c : Thread nD τ).loc main_arg1)) := by
  refine (dats m 0 c).arrAt_eq_of_covers 11 _ (by decide +kernel) fun t hf y => ?_
  have hb : t.val < 256 := pt_lt t
  have hi := (idx_rows t).2.2
  have e0 : (((((cfg0.win 11).blk t).view.emb y) 0 : Fin 16384) : ℕ) = (4 * (t.val / 64) + t.val % 4) * 1024 + (y 0 : Fin 1024).val := by
    blk_simp [hi]
  have e1 : (((((cfg0.win 11).blk t).view.emb y) 1 : Fin 8192) : ℕ) = (t.val / 4 % 16) * 512 + (y 1 : Fin 512).val := by
    blk_simp [hi]
  have y0 : (y 0 : Fin 1024).val < 1024 := (y 0 : Fin 1024).isLt
  have y1 : (y 1 : Fin 512).val < 512 := (y 1 : Fin 512).isLt
  have h := out_at m c t hx (y 0 : Fin 1024) (y 1 : Fin 512)
  have hl : (cfg0.win 11).cut (grid0.coords t) ((dats m 0 c).after 11 t) y = (outsAt0 m c t.val t.isLt).1 (ix2 (y 0 : Fin 1024) (y 1 : Fin 512)) := by
    rw [after0_11]
    show (outsAt0 m c t.val t.isLt).1 _ = (outsAt0 m c t.val t.isLt).1 _
    exact congrArg (outsAt0 m c t.val t.isLt).1 (funext fun a => by fin_cases a <;> rfl)
  refine Eq.trans ?_ (h.trans ?_)
  · exact hl
  · unfold retV
    dsimp only
    congr 1
    · show _ = (((((cfg0.win 11).blk t).view.emb y) 0 : Fin 16384) : ℕ) / 4096
      rw [e0]; omega
    · show _ = (((((cfg0.win 11).blk t).view.emb y) 0 : Fin 16384) : ℕ) % 4096
      rw [e0]; omega
    · apply Fin.ext
      show t.val / 4 % 16 = (((((cfg0.win 11).blk t).view.emb y) 1 : Fin 8192) : ℕ) / 512
      rw [e1]; omega
    · apply Fin.ext
      show (y 1 : Fin 512).val = (((((cfg0.win 11).blk t).view.emb y) 1 : Fin 8192) : ℕ) % 512
      rw [e1]; omega

end Cert.RetKer

end
-- ==== Proof.MmProd.lean ====
/-
  The product of two matrices of extended reals, entry by entry, and its cuts.
-/
module

public import Idealize.ShloMosaic.Lib.Pipeline.Value
public import Idealize.ShloMosaic.Lib.Pipeline.Covers
public import Idealize.ShloMosaic.Lib.Pointwise

@[expose] public section

noncomputable section

namespace Cert.Mm

open Idealize.ShloMosaic

/-- A matrix of extended reals. -/
abbrev Mat (M N : ℕ) : Type := (⟨2, ![M, N]⟩ : Shape).Idx → EReal

/-- THE PRODUCT: entry `(i, j)` is the sum over `k` of `x (i, k) * w (k, j)`. -/
def product {M K N : ℕ} (x : Mat M K) (w : Mat K N) : Mat M N := fun i => ∑ k : Fin K, x (ix2 (i 0 : Fin M) k) * w (ix2 k (i 1 : Fin N))

/-- `xb` is block `(p, q)` of the matrix `x`, cut into blocks of its shape. -/
def IsBlock {M N a b : ℕ} (p q : ℕ) (xb : Mat a b) (x : Mat M N) : Prop :=
  ∀ (y : (⟨2, ![a, b]⟩ : Shape).Idx) (i : (⟨2, ![M, N]⟩ : Shape).Idx), (i 0).val = p * a + (y 0).val → (i 1).val = q * b + (y 1).val → xb y = x i

/-- A block row times a block column is a block of the product. -/
theorem isBlock_product {M K N a b p q : ℕ} {x : Mat M K} {w : Mat K N} {xb : Mat a K} {wb : Mat K b} (hx : IsBlock p 0 xb x) (hw : IsBlock 0 q wb w) :
    IsBlock p q (product xb wb) (product x w) := fun y i h0 h1 =>
  Finset.sum_congr rfl fun k _ => congrArg₂ (· * ·) (hx (ix2 (y 0 : Fin a) k) (ix2 (i 0 : Fin M) k) h0 ((Nat.zero_add _).symm.trans (by rw [Nat.zero_mul]; rfl))) (hw (ix2 k (y 1 : Fin b)) (ix2 k (i 1 : Fin N)) ((Nat.zero_add _).symm.trans (by rw [Nat.zero_mul]; rfl)) h1)

/-- The sum over the cuts of the inner axis, of a block times a block, is a block of the product. -/
theorem isBlock_product_sum {M N K a b n κ p q : ℕ} (hK : K = n * κ) {x : Mat M K} {w : Mat K N} {xb : Fin n → Mat a κ} {wb : Fin n → Mat κ b}
    (hx : ∀ k : Fin n, IsBlock p k.val (xb k) x) (hw : ∀ k : Fin n, IsBlock k.val q (wb k) w) :
    IsBlock p q (fun y => ∑ k, product (xb k) (wb k) y) (product x w) := fun y i h0 h1 => by
  subst hK
  unfold product
  rw [← finProdFinEquiv.sum_comp, Fintype.sum_prod_type]
  refine Finset.sum_congr rfl fun k _ => Finset.sum_congr rfl fun l _ => congrArg₂ (· * ·) (hx k _ _ h0 ?_) (hw k _ _ ?_ h1)
  · show (finProdFinEquiv (k, l)).val = k.val * κ + l.val
    rw [finProdFinEquiv_apply_val, Nat.mul_comm, Nat.add_comm]
  · show (finProdFinEquiv (k, l)).val = k.val * κ + l.val
    rw [finProdFinEquiv_apply_val, Nat.mul_comm, Nat.add_comm]

/-- An offset that is zero on both axes. -/
theorem off_zero : (![0, 0] : Fin 2 → ℕ) = fun _ => 0 := funext fun a => by fin_cases a <;> rfl

theorem off_zero3 : (![0, 0, 0] : Fin 3 → ℕ) = fun _ => 0 := funext fun a => by fin_cases a <;> rfl

/-- One layer of a stack of matrices. -/
def layer {L M N : ℕ} (l : Fin L) (x : (⟨3, ![L, M, N]⟩ : Shape).Idx → EReal) : Mat M N := fun i => x (ix3 l (i 0 : Fin M) (i 1 : Fin N))

/-- A layer cut out of a stack, without its unit axis and in the shorter format. -/
theorem layer_eq {L M N : ℕ} (l : Fin L) (x : FVec Ideal ⟨3, ![L, M, N]⟩ .f32) (h : (⟨3, ![L, M, N]⟩ : Shape).Slices ![l.val, 0, 0] ⟨3, ![1, M, N]⟩)
    (hs : (⟨3, ![1, M, N]⟩ : Shape).ShapeCasts ⟨2, ![M, N]⟩) (hb : FTy.bits .bf16 < FTy.bits .f32) :
    truncf (F := Ideal) .bf16 (shapeCast ⟨2, ![M, N]⟩ (extractStridedSlice ⟨3, ![1, M, N]⟩ ![l.val, 0, 0] x h) hs) hb = layer l x := by
  funext i
  show shapeCast ⟨2, ![M, N]⟩ (extractStridedSlice ⟨3, ![1, M, N]⟩ ![l.val, 0, 0] x h) hs i = layer l x i
  refine (shapeCast_apply _ _ _ (ix3 0 (i 0 : Fin M) (i 1 : Fin N)) ?_).trans (extractStridedSlice_apply _ _ _ _ (ix3 l (i 0 : Fin M) (i 1 : Fin N)) fun a => ?_)
  · rw [Shape.rowMajor_val_three, Shape.rowMajor_val_two]
    show (0 * M + (i 0).val) * N + (i 1).val = (i 0).val * N + (i 1).val
    rw [Nat.zero_mul, Nat.zero_add]
  · fin_cases a
    exacts [rfl, (Nat.zero_add _).symm, (Nat.zero_add _).symm]

/-- A one-layer stack without its unit axis and in the shorter format. -/
theorem only_eq {M N : ℕ} (x : FVec Ideal ⟨3, ![1, M, N]⟩ .f32) (hs : (⟨3, ![1, M, N]⟩ : Shape).ShapeCasts ⟨2, ![M, N]⟩) (hb : FTy.bits .bf16 < FTy.bits .f32) :
    truncf (F := Ideal) .bf16 (shapeCast ⟨2, ![M, N]⟩ x hs) hb = layer 0 x := by
  funext i
  show shapeCast ⟨2, ![M, N]⟩ x hs i = layer 0 x i
  refine shapeCast_apply _ _ _ (ix3 0 (i 0 : Fin M) (i 1 : Fin N)) ?_
  rw [Shape.rowMajor_val_three, Shape.rowMajor_val_two]
  show (0 * M + (i 0).val) * N + (i 1).val = (i 0).val * N + (i 1).val
  rw [Nat.zero_mul, Nat.zero_add]

end Cert.Mm

end
-- ==== Proof.MmKv.lean ====
/-
  The projection of the stream to the shared keys and values: its result is the product.
-/
module

public import proofs.«01_k».proof.Proof.MmProd
public import proofs.«01_k».proof.Proof.Gen.KvProjIdeal.Value
public import proofs.«01_k».proof.Proof.Gen.KvProjRefIdeal.Run

@[expose] public section

set_option maxRecDepth 16384

noncomputable section

namespace Cert.MmKv

open Idealize.ShloMosaic Idealize.ShloMosaic.TcCoe Cert.KvProjIdeal Cert.KvProjIdeal.Gen Cert.Mm

/-- The windows over the grid. -/
theorem idx : ∀ t : Fin cfg0.N, win0_0.index t = ![t.val / 8, 0] ∧ win0_1.index t = ![0, t.val % 8] ∧ win0_2.index t = ![t.val / 8, t.val % 8] := by
  decide +kernel

variable (m : (ℓ : Loc nD τ sig) → Buf (Elt Ideal) ℓ) (c : Dev nD) (t : Fin cfg0.N)

/-- The left factor's block. -/
theorem blk_x : IsBlock (t.val / 8) 0 (iblk m c 0 t : Vec Ideal S1024x4096 .bf16) (m ((c : Thread nD τ).loc main_arg0) : Vec Ideal S16384x4096 .bf16) := fun y i h0 h1 => by
  rw [← V_main_arg0 m c]
  have h := (idx t).1
  blk_ext [iblk, h]

/-- The right factor's block. -/
theorem blk_w : IsBlock 0 (t.val % 8) (iblk m c 1 t : Vec Ideal S4096x1024 .bf16) (m ((c : Thread nD τ).loc main_arg1) : Vec Ideal S4096x8192 .bf16) := fun y i h0 h1 => by
  rw [← V_main_arg1 m c]
  have h := (idx t).2.1
  blk_ext [iblk, h]

/-- What a point's body leaves: the product of its two blocks. -/
theorem out_eq (x : Vec Ideal S1024x4096 .bf16) (w : Vec Ideal S4096x1024 .bf16) : out0_2 x w = product x w := by
  unfold out0_2
  rw [View.canon_unit_zero off_zero, View.ld_unit_zero (S := S1024x4096) off_zero, View.ld_unit_zero (S := S4096x1024) off_zero]
  funext i
  unfold product
  pointwise [k0_pay1]

/-- THE RESULT ARRAY after the run is the product. -/
theorem array_eq : (dats m 0 c).arrAt 2 cfg0.N = product (m ((c : Thread nD τ).loc main_arg0)) (m ((c : Thread nD τ).loc main_arg1)) := by
  refine (dats m 0 c).arrAt_eq_of_covers 2 _ (by decide +kernel) fun t _ y => ?_
  have h := (idx t).2.2
  rw [after0_2, out_eq]
  refine isBlock_product (blk_x m c t) (blk_w m c t) _ _ ?_ ?_ <;> blk_simp [h]

/-- The reference's term is the product. -/
theorem ref_eq (x : FVec Ideal Cert.KvProjRefIdeal.S16384x4096 .bf16) (w : FVec Ideal Cert.KvProjRefIdeal.S4096x8192 .bf16) (h : FTy.bits .bf16 < FTy.bits .f32) :
    truncf (F := Ideal) .bf16 (Host.dotGeneral (φ₂ := .f32) Cert.KvProjRefIdeal.dot_S16384x4096_S4096x8192_S16384x8192_1_0_0_1_n_n none x w) h = product x w := by
  funext i
  unfold product
  pointwise []

end Cert.MmKv

end
-- ==== Proof.MmIn.lean ====
/-
  The projection into the retention: its first result is the product, the other eight are layers of the
  weights in the shorter format, written beside it.
-/
module

public import proofs.«01_k».proof.Proof.MmKv
public import proofs.«01_k».proof.Proof.Gen.InProjIdeal.Value
public import proofs.«01_k».proof.Proof.Gen.InProjRefIdeal.Run

@[expose] public section

set_option maxRecDepth 16384

noncomputable section

namespace Cert.MmIn

open Idealize.ShloMosaic Idealize.ShloMosaic.TcCoe Cert.InProjIdeal Cert.InProjIdeal.Gen Cert.Mm

/-- The product's windows over the grid. -/
theorem idx : ∀ t : Fin cfg0.N, win0_0.index t = ![t.val / 24, 0] ∧ win0_1.index t = ![0, t.val % 24] ∧ win0_10.index t = ![t.val / 24, t.val % 24] := by
  decide +kernel

/-- The windows of the weights: block `min t 255` of rows at point `t`, of layer 1 for the experts' second query weights. -/
theorem idx_rows : ∀ t : Fin cfg0.N, win0_2.index t = ![0, min t.val 255, 0] ∧ win0_3.index t = ![0, min t.val 255, 0] ∧ win0_4.index t = ![0, min t.val 255, 0]
    ∧ win0_5.index t = ![0, min t.val 255, 0] ∧ win0_6.index t = ![1, min t.val 255, 0] ∧ win0_7.index t = ![0, min t.val 255, 0]
    ∧ win0_8.index t = ![0, min t.val 255, 0] ∧ win0_9.index t = ![0, min t.val 255, 0] := by decide +kernel

/-- The windows of the casts. -/
theorem idx_cast : ∀ t : Fin cfg0.N, win0_11.index t = ![min t.val 255, 0] ∧ win0_12.index t = ![min t.val 255, 0] ∧ win0_13.index t = ![min t.val 255, 0]
    ∧ win0_14.index t = ![min t.val 255, 0] ∧ win0_15.index t = ![min t.val 255, 0] ∧ win0_16.index t = ![min t.val 255, 0]
    ∧ win0_17.index t = ![min t.val 255, 0] ∧ win0_18.index t = ![min t.val 255, 0] := by decide +kernel

variable (m : (ℓ : Loc nD τ sig) → Buf (Elt Ideal) ℓ) (c : Dev nD)

/-- THE FIRST RESULT is the product. -/
theorem array_eq : (dats m 0 c).arrAt 10 cfg0.N = product (m ((c : Thread nD τ).loc main_arg0)) (m ((c : Thread nD τ).loc main_arg1)) := by
  refine (dats m 0 c).arrAt_eq_of_covers 10 _ (by decide +kernel) fun t _ y => ?_
  obtain ⟨hx, hw, h⟩ := idx t
  rw [after0_10, show out0_10 (iblk m c 0 t) (iblk m c 1 t) (iblk m c 2 t) (iblk m c 3 t) (iblk m c 4 t) (iblk m c 5 t) (iblk m c 6 t) (iblk m c 7 t) (iblk m c 8 t) (iblk m c 9 t)
      = product _ _ from MmKv.out_eq (iblk m c 0 t) (iblk m c 1 t), ← V_main_arg0 m c, ← V_main_arg1 m c]
  refine isBlock_product (p := t.val / 24) (q := t.val % 24) (fun z i h0 h1 => ?_) (fun z i h0 h1 => ?_) _ _ ?_ ?_
  · blk_ext [iblk, hx]
  · blk_ext [iblk, hw]
  all_goals blk_simp [h]

set_option maxHeartbeats 4000000 in
/-- THE CASTS beside the product: the experts' two factors, their query weights of both layers, and the
    weights out of the retention and of the second layer. -/
theorem casts : (dats m 0 c).arrAt 11 cfg0.N = layer 0 (m ((c : Thread nD τ).loc main_arg2)) ∧ (dats m 0 c).arrAt 12 cfg0.N = layer 0 (m ((c : Thread nD τ).loc main_arg3))
    ∧ (dats m 0 c).arrAt 14 cfg0.N = layer 0 (m ((c : Thread nD τ).loc main_arg5)) ∧ (dats m 0 c).arrAt 15 cfg0.N = layer 1 (m ((c : Thread nD τ).loc main_arg5))
    ∧ (dats m 0 c).arrAt 16 cfg0.N = layer 0 (m ((c : Thread nD τ).loc main_arg6)) ∧ (dats m 0 c).arrAt 17 cfg0.N = layer 0 (m ((c : Thread nD τ).loc main_arg7))
    ∧ (dats m 0 c).arrAt 18 cfg0.N = layer 0 (m ((c : Thread nD τ).loc main_arg8)) := by
  refine ⟨(dats m 0 c).arrAt_eq_of_covers 11 _ (by decide +kernel) ?_, (dats m 0 c).arrAt_eq_of_covers 12 _ (by decide +kernel) ?_,
    (dats m 0 c).arrAt_eq_of_covers 14 _ (by decide +kernel) ?_, (dats m 0 c).arrAt_eq_of_covers 15 _ (by decide +kernel) ?_,
    (dats m 0 c).arrAt_eq_of_covers 16 _ (by decide +kernel) ?_, (dats m 0 c).arrAt_eq_of_covers 17 _ (by decide +kernel) ?_,
    (dats m 0 c).arrAt_eq_of_covers 18 _ (by decide +kernel) ?_⟩ <;> intro t _ y
  on_goal 1 => rw [after0_11, out0_11, ← V_main_arg2 m c]
  on_goal 2 => rw [after0_12, out0_12, ← V_main_arg3 m c]
  on_goal 3 => rw [after0_14, out0_14, ← V_main_arg5 m c]
  on_goal 4 => rw [after0_15, out0_15, ← V_main_arg5 m c]
  on_goal 5 => rw [after0_16, out0_16, ← V_main_arg6 m c]
  on_goal 6 => rw [after0_17, out0_17, ← V_main_arg7 m c]
  on_goal 7 => rw [after0_18, out0_18, ← V_main_arg8 m c]
  all_goals
    rw [View.canon_unit_zero off_zero, View.ld_unit_zero off_zero3]
    unfold layer
    pointwise [k0_pay1, k0_pay2, k0_pay4, k0_pay5, k0_pay7, k0_pay8, k0_pay9]
    obtain ⟨i2, i3, i4, i5, i6, i7, i8, i9⟩ := idx_rows t
    obtain ⟨h11, h12, h13, h14, h15, h16, h17, h18⟩ := idx_cast t
    blk_ext [iblk, i2, i3, i5, i6, i7, i8, i9, h11, h12, h14, h15, h16, h17, h18]

/-- THE CAST of the shared keys' and values' weights, staged under a unit axis. -/
theorem side_13 : (dats m 0 c).arrAt 13 cfg0.N = m ((c : Thread nD τ).loc main_arg4) := by
  refine (dats m 0 c).arrAt_eq_of_covers 13 _ (by decide +kernel) fun t _ y => ?_
  obtain ⟨_, _, hx, _⟩ := idx_rows t
  obtain ⟨_, _, h, _⟩ := idx_cast t
  rw [after0_13, out0_13, View.canon_unit_zero off_zero, View.ld_unit_zero (S := S1x16x8192) off_zero3]
  pointwise [k0_pay6]
  blk_simp [iblk, hx, h]
  entry_read
  pointwise
  blk_ext [hx, h]

/-- The reference's first term is the product. -/
theorem ref_eq (x : FVec Ideal Cert.InProjRefIdeal.S16384x4096 .bf16) (w : FVec Ideal Cert.InProjRefIdeal.S4096x24576 .bf16) (h : FTy.bits .bf16 < FTy.bits .f32) :
    truncf (F := Ideal) .bf16 (Host.dotGeneral (φ₂ := .f32) Cert.InProjRefIdeal.dot_S16384x4096_S4096x24576_S16384x24576_1_0_0_1_n_n none x w) h = product x w := by
  funext i
  unfold product
  pointwise []

end Cert.MmIn

end
-- ==== Proof.MmOut.lean ====
/-
  The retention's projection back onto the stream: the product accumulated over four cuts of its inner
  axis, the stream added to it, and the experts' two factors of the second layer cast beside it.
-/
module

public import proofs.«01_k».proof.Proof.MmProd
public import proofs.«01_k».proof.Proof.Gen.OutProjIdeal.Frame
public import proofs.«01_k».proof.Proof.Gen.OutProjRefIdeal.Run
public import Idealize.ShloMosaic.Lib.Pipeline.ValueKit
public import Idealize.ShloMosaic.Lib.Pipeline.ReadBack

@[expose] public section

set_option maxRecDepth 16384

noncomputable section

namespace Cert.MmOut

open Idealize.ShloMosaic Idealize.ShloMosaic.TcCoe Idealize.SL.Sem Cert.OutProjIdeal Cert.OutProjIdeal.Gen Cert.Mm

/-- The windows over the grid. -/
theorem idx : ∀ t : Fin cfg0.N, win0_0.index t = ![t.val / 16, t.val % 4] ∧ win0_1.index t = ![t.val % 4, t.val / 4 % 4]
    ∧ win0_2.index t = ![t.val / 16, t.val / 4 % 4] ∧ win0_5.index t = ![t.val / 16, t.val / 4 % 4] := by
  decide +kernel

/-- The windows of the experts' factors, input and output. -/
theorem idx_rows : ∀ t : Fin cfg0.N, win0_3.index t = ![1, t.val, 0] ∧ win0_4.index t = ![1, t.val, 0] ∧ win0_6.index t = ![t.val, 0] ∧ win0_7.index t = ![t.val, 0] := by
  decide +kernel

/-- A step of the accumulation, at an index. -/
theorem step_at (acc : Vec Ideal S1024x1024 .f32) (x : Vec Ideal S1024x2048 .bf16) (w : Vec Ideal S2048x1024 .bf16) (i : S1024x1024.Idx) :
    k0_pay4 (F := Ideal) acc x w i = acc i + product x w i := by
  unfold product
  pointwise [k0_pay4]

/-- The cleared accumulator. -/
theorem clear_at (i : S1024x1024.Idx) : k0_pay3 (F := Ideal) i = 0 := by
  pointwise [k0_pay3]

variable (m : (ℓ : Loc nD τ sig) → Buf (Elt Ideal) ℓ) (c : Dev nD)

/-- What a point that starts a block leaves: the casts and the accumulator. -/
theorem point_A (t : Fin cfg0.N) (h0 : t.val % 4 = 0) :
    (outsAt0 m c t.val t.isLt).2 = (k0_pay1 (F := Ideal) (iblk m c 3 t), k0_pay2 (F := Ideal) (iblk m c 4 t), k0_pay4 (F := Ideal) (k0_pay3 (F := Ideal)) (iblk m c 0 t) (iblk m c 1 t)) := by
  rw [outsAt0_A m c t h0 (by omega)]
  refine Prod.ext ?_ (Prod.ext ?_ ?_)
  all_goals
    frame_open
    simp (disch := decide) only [↓ View.readCov_skip, ↓ View.readCov_cons_toLoadRect, ↓ View.readCov_fill]
    frame_out

/-- What a point that goes on with a block leaves. -/
theorem point_B (t : Fin cfg0.N) (h0 : ¬t.val % 4 = 0) (h1 : ¬t.val % 4 = 3) :
    (outsAt0 m c t.val t.isLt).2 = (k0_pay1 (F := Ideal) (iblk m c 3 t), k0_pay2 (F := Ideal) (iblk m c 4 t),
      k0_pay4 (F := Ideal) (outsAt0 m c (t.val - 1) (Nat.lt_of_le_of_lt (Nat.sub_le _ _) t.isLt)).2.2.2 (iblk m c 0 t) (iblk m c 1 t)) := by
  rw [outsAt0_B m c t h0 h1]
  refine Prod.ext ?_ (Prod.ext ?_ ?_)
  all_goals
    frame_open
    simp (disch := decide) only [↓ View.readCov_skip, ↓ View.readCov_cons_toLoadRect, ↓ View.readCov_fill]
    frame_out
  simp only [read_unread_whole]

/-- What a block's last point leaves. -/
theorem point_C (t : Fin cfg0.N) (h1 : t.val % 4 = 3) :
    (outsAt0 m c t.val t.isLt).2 = (k0_pay1 (F := Ideal) (iblk m c 3 t), k0_pay2 (F := Ideal) (iblk m c 4 t),
      k0_pay4 (F := Ideal) (outsAt0 m c (t.val - 1) (Nat.lt_of_le_of_lt (Nat.sub_le _ _) t.isLt)).2.2.2 (iblk m c 0 t) (iblk m c 1 t)) := by
  rw [outsAt0_C m c t (by omega) h1]
  refine Prod.ext ?_ (Prod.ext ?_ ?_)
  all_goals
    frame_open
    simp (disch := decide) only [↓ View.readCov_skip, ↓ View.readCov_cons_toLoadRect, ↓ View.readCov_fill]
    frame_out
  simp only [read_unread_whole]

/-- What a block's last point stores. -/
theorem out_C (t : Fin cfg0.N) (h1 : t.val % 4 = 3) :
    (outsAt0 m c t.val t.isLt).1 = k0_pay5 (F := Ideal) (outsAt0 m c t.val t.isLt).2.2.2 (iblk m c 2 t) := by
  rw [point_C m c t h1, outsAt0_C m c t (by omega) h1]
  frame_open
  simp (disch := decide) only [↓ View.readCov_skip, ↓ View.readCov_cons_toLoadRect, ↓ View.readCov_fill]
  frame_out
  simp only [read_unread_whole]

/-- The casts of every point. -/
theorem casts_at (t : Fin cfg0.N) : (outsAt0 m c t.val t.isLt).2.1 = k0_pay1 (F := Ideal) (iblk m c 3 t) ∧ (outsAt0 m c t.val t.isLt).2.2.1 = k0_pay2 (F := Ideal) (iblk m c 4 t) := by
  by_cases h0 : t.val % 4 = 0
  · rw [point_A m c t h0]; exact ⟨rfl, rfl⟩
  by_cases h1 : t.val % 4 = 3
  · rw [point_C m c t h1]; exact ⟨rfl, rfl⟩
  · rw [point_B m c t h0 h1]; exact ⟨rfl, rfl⟩

/-- A point's term: its block of rows times its block of columns. -/
def term (t : Fin cfg0.N) : Mat 1024 1024 :=
  product (iblk m c 0 t : Vec Ideal S1024x2048 .bf16) (iblk m c 1 t : Vec Ideal S2048x1024 .bf16)

/-- A point's block of the stream. -/
def stream (t : Fin cfg0.N) : Mat 1024 1024 := (iblk m c 2 t : Vec Ideal S1024x1024 .f32)

/-- The accumulator after a point. -/
def acc (n : ℕ) (hn : n < cfg0.N) : Mat 1024 1024 := (outsAt0 m c n hn).2.2.2

theorem acc_reset (t : Fin cfg0.N) (h : t.val % 4 = 0) (i : (⟨2, ![1024, 1024]⟩ : Shape).Idx) : acc m c t.val t.isLt i = 0 + term m c t i := by
  unfold acc term
  rw [point_A m c t h]
  exact (step_at _ _ _ i).trans (congrArg (· + _) (clear_at i))

theorem acc_step (t : Fin cfg0.N) (h : ¬t.val % 4 = 0) (i : (⟨2, ![1024, 1024]⟩ : Shape).Idx) :
    acc m c t.val t.isLt i = acc m c (t.val - 1) (Nat.lt_of_le_of_lt (Nat.sub_le _ _) t.isLt) i + term m c t i := by
  unfold acc term
  by_cases h1 : t.val % 4 = 3
  · rw [point_C m c t h1]
    exact step_at _ _ _ i
  · rw [point_B m c t h h1]
    exact step_at _ _ _ i

/-- What a block's last point stores, at an index: the stream and the sum over the cuts. -/
theorem out_at (t : Fin cfg0.N) (hr : t.val % 4 = 4 - 1) (y : (⟨2, ![1024, 1024]⟩ : Shape).Idx) : (outsAt0 m c t.val t.isLt).1 y
    = stream m c t y + ∑ s : Fin 4, term m c ⟨4 * (t.val / 4) + s.val, Pipeline.run_point_lt_of_flush t hr s⟩ y := by
  rw [out_C m c t (by omega)]
  show acc m c t.val t.isLt y + stream m c t y = _
  rw [Pipeline.eq_sum_fin_of_reset_step_apply_of_flush (acc m c) 4 (fun _ => 0) (term m c) (acc_reset m c) (acc_step m c) t hr y, zero_add]
  exact add_comm (G := EReal) _ _

/-- The terms of a block's points sum to its block of the product. -/
theorem terms (t : Fin cfg0.N) (hr : t.val % 4 = 4 - 1) : IsBlock (t.val / 16) (t.val / 4 % 4)
    (fun y => ∑ s : Fin 4, term m c ⟨4 * (t.val / 4) + s.val, Pipeline.run_point_lt_of_flush t hr s⟩ y)
    (product (m ((c : Thread nD τ).loc main_arg0) : Vec Ideal S16384x8192 .bf16) (m ((c : Thread nD τ).loc main_arg1) : Vec Ideal S8192x4096 .bf16)) := by
  rw [← V_main_arg0 m c, ← V_main_arg1 m c]
  refine isBlock_product_sum (K := 8192) (κ := 2048) rfl (fun s z i h0 h1 => ?_) (fun s z i h0 h1 => ?_)
  · have hs := s.isLt
    have hx := (idx ⟨4 * (t.val / 4) + s.val, Pipeline.run_point_lt_of_flush t hr s⟩).1
    blk_ext [iblk, hx]
  · have hs := s.isLt
    have hx := (idx ⟨4 * (t.val / 4) + s.val, Pipeline.run_point_lt_of_flush t hr s⟩).2.1
    blk_ext [iblk, hx]

/-- THE FIRST RESULT: the stream and the product. -/
theorem array_eq : (dats m 0 c).arrAt 5 cfg0.N
    = addf (F := Ideal) (φ := .f32) (m ((c : Thread nD τ).loc main_arg2)) (product (m ((c : Thread nD τ).loc main_arg0)) (m ((c : Thread nD τ).loc main_arg1))) := by
  refine (dats m 0 c).arrAt_eq_of_covers 5 _ (by decide +kernel) fun t hf y => ?_
  have hr : t.val % 4 = 4 - 1 := (flush0_5 t).mp hf
  obtain ⟨_, _, hh, h⟩ := idx t
  rw [after0_5]
  refine (out_at m c t hr _).trans (congrArg₂ (· + ·) ?_ (terms m c t hr _ _ ?_ ?_))
  · unfold stream
    rw [← V_main_arg2 m c]
    blk_ext [iblk, hh, h]
  · blk_simp [h]
  · blk_simp [h]

/-- THE CASTS of the experts' factors, layer 1. -/
theorem casts : (dats m 0 c).arrAt 6 cfg0.N = layer 1 (m ((c : Thread nD τ).loc main_arg3)) ∧ (dats m 0 c).arrAt 7 cfg0.N = layer 1 (m ((c : Thread nD τ).loc main_arg4)) := by
  refine ⟨(dats m 0 c).arrAt_eq_of_covers 6 _ (by decide +kernel) ?_, (dats m 0 c).arrAt_eq_of_covers 7 _ (by decide +kernel) ?_⟩ <;> intro t _ y
  on_goal 1 => rw [after0_6, (casts_at m c t).1, ← V_main_arg3 m c]
  on_goal 2 => rw [after0_7, (casts_at m c t).2, ← V_main_arg4 m c]
  all_goals
    unfold layer
    pointwise [k0_pay1, k0_pay2]
    obtain ⟨i3, i4, h6, h7⟩ := idx_rows t
    blk_ext [iblk, i3, i4, h6, h7]

/-- The kernel's run, each result at its array's final contents. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v0_0) = (dats m 0 c).arrAt 5 cfg0.N ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4) :=
  (θ_run (defs (F := Ideal)) _ _).mono (fun r h c => ⟨(h c).1 5, (h c).1 6, (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

/-- The reference's product. -/
theorem ref_eq (x : FVec Ideal Cert.OutProjRefIdeal.S16384x8192 .bf16) (w : FVec Ideal Cert.OutProjRefIdeal.S8192x4096 .bf16) :
    Host.dotGeneral (F := Ideal) (φ₂ := .f32) Cert.OutProjRefIdeal.dot_S16384x8192_S8192x4096_S16384x4096_1_0_0_1_n_n none x w = product x w := by
  funext i
  unfold product
  pointwise []

end Cert.MmOut

end
-- ==== Proof.MmQueries.lean ====
/-
  The projections to the queries of the second layer and of the experts. A point's body is that of the
  projection to the shared keys and values; the weights' width and the grid differ.
-/
module

public import proofs.«01_k».proof.Proof.MmKv
public import proofs.«01_k».proof.Proof.Gen.QueryProjIdeal.Value
public import proofs.«01_k».proof.Proof.Gen.QueryProjRefIdeal.Run
public import proofs.«01_k».proof.Proof.Gen.PeerProjIdeal.Value
public import proofs.«01_k».proof.Proof.Gen.PeerProjRefIdeal.Run

@[expose] public section

set_option maxRecDepth 16384

noncomputable section

namespace Cert.MmQuery

open Idealize.ShloMosaic Idealize.ShloMosaic.TcCoe Cert.QueryProjIdeal Cert.QueryProjIdeal.Gen Cert.Mm

/-- The windows over the grid. -/
theorem idx : ∀ t : Fin cfg0.N, win0_0.index t = ![t.val / 4, 0] ∧ win0_1.index t = ![0, t.val % 4] ∧ win0_2.index t = ![t.val / 4, t.val % 4] := by
  decide +kernel

/-- THE RESULT ARRAY of the second layer's query projection is the product. -/
theorem array_eq (m : (ℓ : Loc nD τ sig) → Buf (Elt Ideal) ℓ) (c : Dev nD) :
    (dats m 0 c).arrAt 2 cfg0.N = product (m ((c : Thread nD τ).loc main_arg0)) (m ((c : Thread nD τ).loc main_arg1)) := by
  refine (dats m 0 c).arrAt_eq_of_covers 2 _ (by decide +kernel) fun t _ y => ?_
  obtain ⟨hx, hw, h⟩ := idx t
  rw [after0_2, show out0_2 (iblk m c 0 t) (iblk m c 1 t) = product _ _ from MmKv.out_eq (iblk m c 0 t) (iblk m c 1 t), ← V_main_arg0 m c, ← V_main_arg1 m c]
  refine isBlock_product (p := t.val / 4) (q := t.val % 4) (fun z i h0 h1 => ?_) (fun z i h0 h1 => ?_) _ _ ?_ ?_
  · blk_ext [iblk, hx]
  · blk_ext [iblk, hw]
  all_goals blk_simp [h]

/-- The reference's term is the product. -/
theorem ref_eq (x : FVec Ideal Cert.QueryProjRefIdeal.S16384x4096 .bf16) (w : FVec Ideal Cert.QueryProjRefIdeal.S4096x4096 .bf16) (h : FTy.bits .bf16 < FTy.bits .f32) :
    truncf (F := Ideal) .bf16 (Host.dotGeneral (φ₂ := .f32) Cert.QueryProjRefIdeal.dot_S16384x4096_S4096x4096_S16384x4096_1_0_0_1_n_n none x w) h = product x w := by
  funext i
  unfold product
  pointwise []

end Cert.MmQuery

namespace Cert.MmPeer

open Idealize.ShloMosaic Idealize.ShloMosaic.TcCoe Cert.PeerProjIdeal Cert.PeerProjIdeal.Gen Cert.Mm

/-- The windows over the grid. -/
theorem idx : ∀ t : Fin cfg0.N, win0_0.index t = ![t.val / 2, 0] ∧ win0_1.index t = ![0, t.val % 2] ∧ win0_2.index t = ![t.val / 2, t.val % 2] := by
  decide +kernel

/-- THE RESULT ARRAY of the experts' query projection is the product. -/
theorem array_eq (m : (ℓ : Loc nD τ sig) → Buf (Elt Ideal) ℓ) (c : Dev nD) :
    (dats m 0 c).arrAt 2 cfg0.N = product (m ((c : Thread nD τ).loc main_arg0)) (m ((c : Thread nD τ).loc main_arg1)) := by
  refine (dats m 0 c).arrAt_eq_of_covers 2 _ (by decide +kernel) fun t _ y => ?_
  obtain ⟨hx, hw, h⟩ := idx t
  rw [after0_2, show out0_2 (iblk m c 0 t) (iblk m c 1 t) = product _ _ from MmKv.out_eq (iblk m c 0 t) (iblk m c 1 t), ← V_main_arg0 m c, ← V_main_arg1 m c]
  refine isBlock_product (p := t.val / 2) (q := t.val % 2) (fun z i h0 h1 => ?_) (fun z i h0 h1 => ?_) _ _ ?_ ?_
  · blk_ext [iblk, hx]
  · blk_ext [iblk, hw]
  all_goals blk_simp [h]

/-- The reference's term is the product. -/
theorem ref_eq (x : FVec Ideal Cert.PeerProjRefIdeal.S16384x4096 .bf16) (w : FVec Ideal Cert.PeerProjRefIdeal.S4096x2048 .bf16) (h : FTy.bits .bf16 < FTy.bits .f32) :
    truncf (F := Ideal) .bf16 (Host.dotGeneral (φ₂ := .f32) Cert.PeerProjRefIdeal.dot_S16384x4096_S4096x2048_S16384x2048_1_0_0_1_n_n none x w) h = product x w := by
  funext i
  unfold product
  pointwise []

end Cert.MmPeer

end
-- ==== Proof.MmSb.lean ====
/-
  The second layer's projection back onto the stream: the product accumulated over two cuts of its inner
  axis, and the stream added to it.
-/
module

public import proofs.«01_k».proof.Proof.MmProd
public import proofs.«01_k».proof.Proof.Gen.SbOutProjIdeal.Value
public import proofs.«01_k».proof.Proof.Gen.SbOutProjRefIdeal.Run
public import Idealize.ShloMosaic.Lib.Pipeline.ValueKit
public import Idealize.ShloMosaic.Lib.Pipeline.ReadBack

@[expose] public section

set_option maxRecDepth 16384

noncomputable section

namespace Cert.MmSb

open Idealize.ShloMosaic Idealize.ShloMosaic.TcCoe Cert.SbOutProjIdeal Cert.SbOutProjIdeal.Gen Cert.Mm

/-- The windows over the grid. -/
theorem idx : ∀ t : Fin cfg0.N, win0_0.index t = ![t.val / 8, t.val % 2] ∧ win0_1.index t = ![t.val % 2, t.val / 2 % 4]
    ∧ win0_2.index t = ![t.val / 8, t.val / 2 % 4] ∧ win0_3.index t = ![t.val / 8, t.val / 2 % 4] := by
  decide +kernel

/-- A step of the accumulation, at an index. -/
theorem step_at (acc : Vec Ideal S1024x1024 .f32) (x : Vec Ideal S1024x2048 .bf16) (w : Vec Ideal S2048x1024 .bf16) (i : S1024x1024.Idx) :
    k0_pay2 (F := Ideal) acc x w i = acc i + product x w i := by
  unfold product
  pointwise [k0_pay2]

/-- The cleared accumulator. -/
theorem clear_at (i : S1024x1024.Idx) : k0_pay1 (F := Ideal) i = 0 := by
  pointwise [k0_pay1]

variable (m : (ℓ : Loc nD τ sig) → Buf (Elt Ideal) ℓ) (c : Dev nD)

/-- The accumulator after a point that starts a block. -/
theorem acc_A (t : Fin cfg0.N) (h0 : t.val % 2 = 0) :
    (outsAt0 m c t.val t.isLt).2 = k0_pay2 (F := Ideal) (k0_pay1 (F := Ideal)) (iblk m c 0 t) (iblk m c 1 t) := by
  rw [outsAt0_A m c t h0 (by omega)]
  frame_open
  simp (disch := decide) only [↓ View.readCov_skip, ↓ View.readCov_cons_toLoadRect, ↓ View.readCov_fill]
  frame_out

/-- The accumulator after a point that goes on with a block. -/
theorem acc_B (t : Fin cfg0.N) (h0 : ¬t.val % 2 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 (by omega)]
  frame_open
  simp (disch := decide) only [↓ View.readCov_skip, ↓ View.readCov_cons_toLoadRect, ↓ View.readCov_fill]
  frame_out
  simp only [read_unread_whole]

/-- What a block's last point stores. -/
theorem out_B (t : Fin cfg0.N) (h0 : ¬t.val % 2 = 0) :
    (outsAt0 m c t.val t.isLt).1 = k0_pay3 (F := Ideal) (outsAt0 m c t.val t.isLt).2 (iblk m c 2 t) := by
  rw [acc_B m c t h0, outsAt0_B m c t h0 (by omega)]
  frame_open
  simp (disch := decide) only [↓ View.readCov_skip, ↓ View.readCov_cons_toLoadRect, ↓ View.readCov_fill]
  frame_out
  simp only [read_unread_whole]

/-- A point's term: its block of rows times its block of columns. -/
def term (t : Fin cfg0.N) : Mat 1024 1024 :=
  product (iblk m c 0 t : Vec Ideal S1024x2048 .bf16) (iblk m c 1 t : Vec Ideal S2048x1024 .bf16)

/-- A point's block of the stream. -/
def stream (t : Fin cfg0.N) : Mat 1024 1024 := (iblk m c 2 t : Vec Ideal S1024x1024 .f32)

/-- The accumulator after a point. -/
def acc (n : ℕ) (hn : n < cfg0.N) : Mat 1024 1024 := (outsAt0 m c n hn).2

theorem acc_reset (t : Fin cfg0.N) (h : t.val % 2 = 0) (i : (⟨2, ![1024, 1024]⟩ : Shape).Idx) : acc m c t.val t.isLt i = 0 + term m c t i := by
  unfold acc term
  rw [acc_A m c t h]
  exact (step_at _ _ _ i).trans (congrArg (· + _) (clear_at i))

theorem acc_step (t : Fin cfg0.N) (h : ¬t.val % 2 = 0) (i : (⟨2, ![1024, 1024]⟩ : Shape).Idx) :
    acc m c t.val t.isLt i = acc m c (t.val - 1) (Nat.lt_of_le_of_lt (Nat.sub_le _ _) t.isLt) i + term m c t i := by
  unfold acc term
  rw [acc_B m c t h]
  exact step_at _ _ _ i

/-- The accumulator at a block's last point: the sum over the cuts. -/
theorem acc_eq (t : Fin cfg0.N) (h : t.val % 2 = 2 - 1) (i : (⟨2, ![1024, 1024]⟩ : Shape).Idx) : acc m c t.val t.isLt i
    = 0 + ∑ s : Fin 2, term m c ⟨2 * (t.val / 2) + s.val, Pipeline.run_point_lt_of_flush t h s⟩ i :=
  Pipeline.eq_sum_fin_of_reset_step_apply_of_flush (acc m c) 2 (fun _ => 0) (term m c) (acc_reset m c) (acc_step m c) t h i

/-- The terms of a block's points sum to its block of the product. -/
theorem terms (t : Fin cfg0.N) (hr : t.val % 2 = 2 - 1) : IsBlock (t.val / 8) (t.val / 2 % 4)
    (fun y => ∑ s : Fin 2, term m c ⟨2 * (t.val / 2) + s.val, Pipeline.run_point_lt_of_flush t hr s⟩ y)
    (product (m ((c : Thread nD τ).loc main_arg0) : Vec Ideal S16384x4096 .bf16) (m ((c : Thread nD τ).loc main_arg1) : Vec Ideal S4096x4096 .bf16)) := by
  rw [← V_main_arg0 m c, ← V_main_arg1 m c]
  refine isBlock_product_sum (K := 4096) (κ := 2048) rfl (fun s z i h0 h1 => ?_) (fun s z i h0 h1 => ?_)
  · have hs := s.isLt
    have hx := (idx ⟨2 * (t.val / 2) + s.val, Pipeline.run_point_lt_of_flush t hr s⟩).1
    blk_ext [iblk, hx]
  · have hs := s.isLt
    have hx := (idx ⟨2 * (t.val / 2) + s.val, Pipeline.run_point_lt_of_flush t hr s⟩).2.1
    blk_ext [iblk, hx]

/-- What a block's last point stores, at an index. -/
theorem out_at (t : Fin cfg0.N) (hr : t.val % 2 = 2 - 1) (y : (⟨2, ![1024, 1024]⟩ : Shape).Idx) : (outsAt0 m c t.val t.isLt).1 y
    = stream m c t y + ∑ s : Fin 2, term m c ⟨2 * (t.val / 2) + s.val, Pipeline.run_point_lt_of_flush t hr s⟩ y := by
  rw [out_B m c t (by omega)]
  show acc m c t.val t.isLt y + stream m c t y = _
  rw [acc_eq m c t hr, zero_add]
  exact add_comm (G := EReal) _ _

/-- THE RESULT ARRAY: the stream and the product. -/
theorem array_eq : (dats m 0 c).arrAt 3 cfg0.N
    = addf (F := Ideal) (φ := .f32) (m ((c : Thread nD τ).loc main_arg2)) (product (m ((c : Thread nD τ).loc main_arg0)) (m ((c : Thread nD τ).loc main_arg1))) := by
  refine (dats m 0 c).arrAt_eq_of_covers 3 _ (by decide +kernel) fun t hf y => ?_
  have hr : t.val % 2 = 2 - 1 := (flush0_3 t).mp hf
  obtain ⟨_, _, hh, h⟩ := idx t
  rw [after0_3]
  refine (out_at m c t hr _).trans (congrArg₂ (· + ·) ?_ (terms m c t hr _ _ ?_ ?_))
  · unfold stream
    rw [← V_main_arg2 m c]
    blk_ext [iblk, hh, h]
  · blk_simp [h]
  · blk_simp [h]

/-- The reference's term. -/
theorem ref_eq (x : FVec Ideal Cert.SbOutProjRefIdeal.S16384x4096 .bf16) (w : FVec Ideal Cert.SbOutProjRefIdeal.S4096x4096 .bf16) :
    Host.dotGeneral (F := Ideal) (φ₂ := .f32) Cert.SbOutProjRefIdeal.dot_S16384x4096_S4096x4096_S16384x4096_1_0_0_1_n_n none x w = product x w := by
  funext i
  unfold product
  pointwise []

end Cert.MmSb

end
-- ==== Proof.Norms.lean ====
/-
  The norm of the rows of the stream under one gain, and under two, and the cast of the weights into the retention.
-/
module

public import proofs.«01_k».proof.Proof.MmProd
public import proofs.«01_k».proof.Proof.Gen.NormIdeal.Value
public import proofs.«01_k».proof.Proof.Gen.NormRefIdeal.Run
public import proofs.«01_k».proof.Proof.Gen.NormPairIdeal.Value
public import proofs.«01_k».proof.Proof.Gen.NormPairRefIdeal.Run
public import proofs.«01_k».proof.Proof.Gen.WeightCastIdeal.Value
public import proofs.«01_k».proof.Proof.Gen.WeightCastRefIdeal.Run

@[expose] public section

set_option maxRecDepth 16384

noncomputable section

namespace Cert.Mm

open Idealize.ShloMosaic

/-- THE NORM: each row over the root of its mean square (and a small constant), times gain `l`. -/
def normed {M L : ℕ} (l : Fin L) (x : Mat M 4096) (g : Mat L 4096) : Mat M 4096 := fun i =>
  x i * Ideal.rsqrt (Ideal.div (∑ k : Fin 4096, x (ix2 (i 0 : Fin M) k) * x (ix2 (i 0 : Fin M) k)) (Ideal.ofBits .f32 0x45800000#32) + Ideal.ofBits .f32 0x358637BD#32)
    * g (ix2 l (i 1 : Fin 4096))

/-- The norm of a band of rows is that band of the norm. -/
theorem isBlock_normed {M L a p : ℕ} {l : Fin L} {x : Mat M 4096} {xb : Mat a 4096} {g gb : Mat L 4096} (hx : IsBlock p 0 xb x) (hg : IsBlock 0 0 gb g) :
    IsBlock p 0 (normed l xb gb) (normed l x g) := fun y i h0 h1 => by
  have hr (k : Fin 4096) : xb (ix2 (y 0 : Fin a) k) = x (ix2 (i 0 : Fin M) k) := hx _ _ h0 (by rw [Nat.zero_mul, Nat.zero_add]; rfl)
  unfold normed
  rw [hx y i h0 h1, Finset.sum_congr rfl fun k _ => congrArg₂ (· * ·) (hr k) (hr k),
    hg (ix2 l (y 1 : Fin 4096)) (ix2 l (i 1 : Fin 4096)) (by rw [Nat.zero_mul, Nat.zero_add]; rfl) h1]

/-- Row `l` of the gains, cut out and without its unit axis. -/
theorem row_at {L : ℕ} (l : Fin L) (g : FVec Ideal ⟨2, ![L, 4096]⟩ .f32) (h : (⟨2, ![L, 4096]⟩ : Shape).Slices ![l.val, 0] ⟨2, ![1, 4096]⟩)
    (hs : (⟨2, ![1, 4096]⟩ : Shape).ShapeCasts ⟨1, ![4096]⟩) (j : Fin 4096) :
    shapeCast ⟨1, ![4096]⟩ (extractStridedSlice ⟨2, ![1, 4096]⟩ ![l.val, 0] g h) hs (ix1 j) = g (ix2 l j) := by
  refine (shapeCast_apply _ _ _ (ix2 0 j) ?_).trans (extractStridedSlice_apply _ _ _ _ (ix2 l j) fun a => ?_)
  · rw [Shape.rowMajor_val_two, Shape.rowMajor_val_one]
    show 0 * 4096 + j.val = j.val
    rw [Nat.zero_mul, Nat.zero_add]
  · fin_cases a
    exacts [rfl, (Nat.zero_add _).symm]

/-- The only row of the gains, without its unit axis. -/
theorem only_row_at (g : FVec Ideal ⟨2, ![1, 4096]⟩ .f32) (hs : (⟨2, ![1, 4096]⟩ : Shape).ShapeCasts ⟨1, ![4096]⟩) (j : Fin 4096) :
    shapeCast ⟨1, ![4096]⟩ g hs (ix1 j) = g (ix2 0 j) := by
  refine shapeCast_apply _ _ _ (ix2 0 j) ?_
  rw [Shape.rowMajor_val_two, Shape.rowMajor_val_one]
  show 0 * 4096 + j.val = j.val
  rw [Nat.zero_mul, Nat.zero_add]

open Cert.NormRefIdeal Cert.NormRefIdeal.Gen in
/-- The references' term is the norm under the gain whose row they cut out. -/
theorem ref_normed {L : ℕ} (l : Fin L) (x : FVec Ideal S16384x4096 .f32) (g : Mat L 4096) (v : FVec Ideal S4096 .f32) (hv : ∀ j, v (ix1 j) = g (ix2 l j)) :
    truncf (F := Ideal) .bf16 (mulf (mulf x (broadcastInDim S16384x4096 ![0, 1] bcast_S16384x1_S16384x4096_0_1 (Host.rsqrt (addf (Host.divf (broadcastInDim S16384x1 ![0] bcast_S16384_S16384x1_0
      (Host.reduceAdd (mulf x x) (constant S_ .f32 0x00000000#32) reducesTo_S16384x4096_S16384_d1 h_S_)) (broadcastInDim S16384x1 ![] bcast_S_S16384x1 (constant S_ .f32 0x45800000#32)))
      (broadcastInDim S16384x1 ![] bcast_S_S16384x1 (constant S_ .f32 0x358637BD#32))))))
      (broadcastInDim S16384x4096 ![0, 1] bcast_S1x4096_S16384x4096_0_1 (broadcastInDim S1x4096 ![1] bcast_S4096_S1x4096_1 v))) bitsLt_bf16_f32 = normed l x g := by
  funext i
  unfold normed
  refine Eq.trans ?_ (congrArg (_ * ·) (hv (i 1 : Fin 4096)))
  pointwise []

end Cert.Mm

namespace Cert.Norm1

open Idealize.ShloMosaic Idealize.ShloMosaic.TcCoe Cert.NormIdeal Cert.NormIdeal.Gen Cert.Mm

/-- The windows over the grid. -/
theorem idx : ∀ t : Fin cfg0.N, win0_0.index t = ![t.val, 0] ∧ win0_1.index t = ![0, 0] ∧ win0_2.index t = ![t.val, 0] := by
  decide +kernel

/-- A point's block is the norm of its rows. -/
theorem out_eq (x : Mat 256 4096) (g : Mat 1 4096) : out0_2 (F := Ideal) x g = normed 0 x g := by
  rw [out0_2, View.canon_unit_zero off_zero, View.ld_unit_zero off_zero, View.ld_unit_zero off_zero]
  funext y
  unfold normed
  pointwise [k0_pay1]

/-- THE RESULT ARRAY is the norm. -/
theorem array_eq (m : (ℓ : Loc nD τ sig) → Buf (Elt Ideal) ℓ) (c : Dev nD) :
    (dats m 0 c).arrAt 2 cfg0.N = normed 0 (m ((c : Thread nD τ).loc main_arg0)) (m ((c : Thread nD τ).loc main_arg1)) := by
  refine (dats m 0 c).arrAt_eq_of_covers 2 _ (by decide +kernel) fun t _ y => ?_
  obtain ⟨hx, hg, h⟩ := idx t
  rw [after0_2, show out0_2 (iblk m c 0 t) (iblk m c 1 t) = normed 0 _ _ from out_eq (iblk m c 0 t) (iblk m c 1 t), ← V_main_arg0 m c, ← V_main_arg1 m c]
  refine isBlock_normed (p := t.val) (fun z i h0 h1 => ?_) (fun z i h0 h1 => ?_) _ _ ?_ ?_
  · blk_ext [iblk, hx]
  · blk_ext [iblk, hg]
  all_goals blk_simp [h]

end Cert.Norm1

namespace Cert.Norm2

open Idealize.ShloMosaic Idealize.ShloMosaic.TcCoe Cert.NormPairIdeal Cert.NormPairIdeal.Gen Cert.Mm

/-- The windows over the grid. -/
theorem idx : ∀ t : Fin cfg0.N, win0_0.index t = ![t.val, 0] ∧ win0_1.index t = ![0, 0] ∧ win0_2.index t = ![t.val, 0] ∧ win0_3.index t = ![t.val, 0] := by
  decide +kernel

/-- A point's blocks are the norms of its rows under the two gains. -/
theorem out_eq (x : Mat 256 4096) (g : Mat 2 4096) : out0_2 (F := Ideal) x g = normed 0 x g ∧ out0_3 (F := Ideal) x g = normed 1 x g := by
  rw [out0_2, out0_3, View.canon_unit_zero off_zero, View.canon_unit_zero off_zero, View.ld_unit_zero off_zero]
  constructor <;> funext y <;> unfold normed
  · pointwise [k0_pay2, k0_pay1]
  · pointwise [k0_pay3, k0_pay1]

/-- THE RESULT ARRAYS are the norms under the two gains. -/
theorem array_eq (m : (ℓ : Loc nD τ sig) → Buf (Elt Ideal) ℓ) (c : Dev nD) :
    (dats m 0 c).arrAt 2 cfg0.N = normed 0 (m ((c : Thread nD τ).loc main_arg0)) (m ((c : Thread nD τ).loc main_arg1))
      ∧ (dats m 0 c).arrAt 3 cfg0.N = normed 1 (m ((c : Thread nD τ).loc main_arg0)) (m ((c : Thread nD τ).loc main_arg1)) := by
  refine ⟨(dats m 0 c).arrAt_eq_of_covers 2 _ (by decide +kernel) ?_, (dats m 0 c).arrAt_eq_of_covers 3 _ (by decide +kernel) ?_⟩ <;>
    (intro t _ y; obtain ⟨hx, hg, h, h'⟩ := idx t; have hb := out_eq (iblk m c 0 t) (iblk m c 1 t))
  on_goal 1 => rw [after0_2, show out0_2 (iblk m c 0 t) (iblk m c 1 t) = normed 0 _ _ from hb.1, ← V_main_arg0 m c, ← V_main_arg1 m c]
  on_goal 2 => rw [after0_3, show out0_3 (iblk m c 0 t) (iblk m c 1 t) = normed 1 _ _ from hb.2, ← V_main_arg0 m c, ← V_main_arg1 m c]
  all_goals
    refine isBlock_normed (p := t.val) (fun z i h0 h1 => ?_) (fun z i h0 h1 => ?_) _ _ ?_ ?_
    · blk_ext [iblk, hx]
    · blk_ext [iblk, hg]
    all_goals blk_simp [h, h']

end Cert.Norm2

namespace Cert.CastW

open Idealize.ShloMosaic Idealize.ShloMosaic.TcCoe Cert.WeightCastIdeal Cert.WeightCastIdeal.Gen Cert.Mm

/-- The windows over the grid. -/
theorem idx : ∀ t : Fin cfg0.N, win0_0.index t = ![0, t.val / 6, t.val % 6] ∧ win0_1.index t = ![t.val / 6, t.val % 6] := by
  decide +kernel

/-- THE RESULT ARRAY is the one layer of the weights. -/
theorem array_eq (m : (ℓ : Loc nD τ sig) → Buf (Elt Ideal) ℓ) (c : Dev nD) :
    (dats m 0 c).arrAt 1 cfg0.N = layer 0 (m ((c : Thread nD τ).loc main_arg0)) := by
  refine (dats m 0 c).arrAt_eq_of_covers 1 _ (by decide +kernel) fun t _ y => ?_
  obtain ⟨hx, h⟩ := idx t
  rw [after0_1, out0_1, ← V_main_arg0 m c, View.canon_unit_zero off_zero, View.ld_unit_zero off_zero3]
  unfold layer
  pointwise [k0_pay1]
  blk_ext [iblk, hx, h]

end Cert.CastW

end
-- ==== Proof.MmClaims.lean ====
/-
  The claims about the projections, the norms and the cast: over the reals each kernel and its reference end at the same arrays.
-/
module

public import proofs.«01_k».proof.Defs
public import proofs.«01_k».proof.Proof.MmIn
public import proofs.«01_k».proof.Proof.MmOut
public import proofs.«01_k».proof.Proof.MmQueries
public import proofs.«01_k».proof.Proof.MmSb
public import proofs.«01_k».proof.Proof.Norms

@[expose] public section

set_option maxRecDepth 16384

noncomputable section

namespace Cert.Proof

open Idealize.ShloMosaic Idealize.SL.Sem Cert.Mm

/-- Runs that end at one array on every device end at any array equal to it, what else they keep kept. -/
theorem ends_at {α ι : Type} {β : ι → Type} {W : WPT α} {f : α → (c : ι) → β c} {v w : (c : ι) → β c} {K : α → ι → Prop}
    (h : W.1 fun r => ∀ c, f r c = v c ∧ K r c) (e : ∀ c, v c = w c) : W.1 fun r => ∀ c, f r c = w c ∧ K r c :=
  W.mono (fun _ hr c => ⟨(hr c).1.trans (e c), (hr c).2⟩) h

/-- A program without semaphores whose runs keep its arguments ends with every counter at zero. -/
theorem quiet_of {nD : ℕ} {τ : Topo} {sig : RefSig} {Val : EltTy → Type} {W : WPT (PUnit × MemSt nD τ sig Val)}
    {P K : PUnit × MemSt nD τ sig Val → Dev nD → Prop} (none : sig.nSem + sig.nDmaSem = 0)
    (h : W.1 fun r => ∀ c, P r c) (hK : ∀ r c, P r c → K r c) : W.1 fun r => (∀ c, K r c) ∧ r.2.sem = fun _ => 0 :=
  W.mono (fun r hr => ⟨fun c => hK r c (hr c), sem_eq_zero_of_no_sems none r.2⟩) h

/-- The shared keys and values. -/
theorem same_KvProj : Cert.algebraic_KvProjIdeal_KvProjRefIdeal := fun m ρ m' ρ' _ hagree =>
  ⟨_, ends_at (Cert.KvProjIdeal.Value.run_blocks m ρ) (Cert.MmKv.array_eq m), ends_at (Cert.KvProjRefIdeal.Value.run m' ρ')
    fun c => (Cert.MmKv.ref_eq _ _ _).trans (congrArg₂ product (hagree c).1 (hagree c).2)⟩

/-- The second layer's queries. -/
theorem same_QueryProj : Cert.algebraic_QueryProjIdeal_QueryProjRefIdeal := fun m ρ m' ρ' _ hagree =>
  ⟨_, ends_at (Cert.QueryProjIdeal.Value.run_blocks m ρ) (Cert.MmQuery.array_eq m), ends_at (Cert.QueryProjRefIdeal.Value.run m' ρ')
    fun c => (Cert.MmQuery.ref_eq _ _ _).trans (congrArg₂ product (hagree c).1 (hagree c).2)⟩

/-- The experts' queries. -/
theorem same_PeerProj : Cert.algebraic_PeerProjIdeal_PeerProjRefIdeal := fun m ρ m' ρ' _ hagree =>
  ⟨_, ends_at (Cert.PeerProjIdeal.Value.run_blocks m ρ) (Cert.MmPeer.array_eq m), ends_at (Cert.PeerProjRefIdeal.Value.run m' ρ')
    fun c => (Cert.MmPeer.ref_eq _ _ _).trans (congrArg₂ product (hagree c).1 (hagree c).2)⟩

/-- The second layer's way back onto the stream. -/
theorem same_SbOutProj : Cert.algebraic_SbOutProjIdeal_SbOutProjRefIdeal := fun m ρ m' ρ' _ hagree =>
  ⟨_, ends_at (Cert.SbOutProjIdeal.Value.run_blocks m ρ) (Cert.MmSb.array_eq m), ends_at (Cert.SbOutProjRefIdeal.Value.run m' ρ')
    fun c => congrArg₂ (addf (F := Ideal) (φ := .f32)) (hagree c).2.2
      ((Cert.MmSb.ref_eq _ _).trans (congrArg₂ product (hagree c).1 (hagree c).2.1))⟩

/-- The retention's way back onto the stream, and the casts beside it. -/
theorem same_OutProj : Cert.algebraic_OutProjIdeal_OutProjRefIdeal := by
  intro m ρ m' ρ' _ hagree
  refine ⟨fun c => addf (F := Ideal) (φ := .f32) (m (c.tc.loc Cert.OutProjIdeal.main_arg2)) (product (m (c.tc.loc Cert.OutProjIdeal.main_arg0)) (m (c.tc.loc Cert.OutProjIdeal.main_arg1))), fun c => layer 1 (m (c.tc.loc Cert.OutProjIdeal.main_arg3)), fun c => layer 1 (m (c.tc.loc Cert.OutProjIdeal.main_arg4)),
    (θ_run Cert.OutProjIdeal.defs _ _).mono (fun r h c => ⟨(h c).1.trans (Cert.MmOut.array_eq m c), (h c).2.1.trans (Cert.MmOut.casts m c).1,
      (h c).2.2.1.trans (Cert.MmOut.casts m c).2, (h c).2.2.2⟩) (Cert.MmOut.run m ρ),
    (θ_run Cert.OutProjRefIdeal.defs _ _).mono (fun r h c => ⟨(h c).1.trans ?_, (h c).2.1.trans ?_, (h c).2.2.1.trans ?_, (h c).2.2.2⟩) (Cert.OutProjRefIdeal.Value.run m' ρ')⟩
  · rw [(hagree c).1, (hagree c).2.1, (hagree c).2.2.1]
    exact congrArg (addf (F := Ideal) (φ := .f32) _) (Cert.MmOut.ref_eq _ _)
  · rw [(hagree c).2.2.2.1]
    exact layer_eq 1 _ _ _ _
  · rw [(hagree c).2.2.2.2]
    exact layer_eq 1 _ _ _ _

/-- The way into the retention, and the casts beside it. -/
theorem same_InProj : Cert.algebraic_InProjIdeal_InProjRefIdeal := by
  intro m ρ m' ρ' _ hagree
  refine ⟨fun c => product (m (c.tc.loc Cert.InProjIdeal.main_arg0)) (m (c.tc.loc Cert.InProjIdeal.main_arg1)), fun c => layer 0 (m (c.tc.loc Cert.InProjIdeal.main_arg2)), fun c => layer 0 (m (c.tc.loc Cert.InProjIdeal.main_arg3)),
    fun c => m (c.tc.loc Cert.InProjIdeal.main_arg4), fun c => layer 0 (m (c.tc.loc Cert.InProjIdeal.main_arg5)), fun c => layer 1 (m (c.tc.loc Cert.InProjIdeal.main_arg5)),
    fun c => layer 0 (m (c.tc.loc Cert.InProjIdeal.main_arg6)), fun c => layer 0 (m (c.tc.loc Cert.InProjIdeal.main_arg7)), fun c => layer 0 (m (c.tc.loc Cert.InProjIdeal.main_arg8)),
    (θ_run Cert.InProjIdeal.defs _ _).mono (fun r h c => ?_) (Cert.InProjIdeal.Value.run_blocks m ρ),
    (θ_run Cert.InProjRefIdeal.defs _ _).mono (fun r h c => ?_) (Cert.InProjRefIdeal.Value.run m' ρ')⟩
  · obtain ⟨r0, r1, r2, r3, r4, r5, r6, r7, r8, kept⟩ := h c
    obtain ⟨e1, e2, e4, e5, e6, e7, e8⟩ := Cert.MmIn.casts m c
    exact ⟨r0.trans (Cert.MmIn.array_eq m c), r1.trans e1, r2.trans e2, r3.trans (Cert.MmIn.side_13 m c), r4.trans e4, r5.trans e5, r6.trans e6, r7.trans e7, r8.trans e8, kept⟩
  · obtain ⟨r0, r1, r2, r3, r4, r5, r6, r7, r8, kept⟩ := h c
    obtain ⟨a0, a1, a2, a3, a4, a5, a6, a7, a8⟩ := hagree c
    refine ⟨r0.trans ?_, r1.trans ?_, r2.trans ?_, r3.trans ?_, r4.trans ?_, r5.trans ?_, r6.trans ?_, r7.trans ?_, r8.trans ?_, kept⟩
    · rw [a0, a1]; exact Cert.MmIn.ref_eq _ _ _
    · rw [a2]; exact layer_eq 0 _ _ _ _
    · rw [a3]; exact layer_eq 0 _ _ _ _
    · rw [a4]; rfl
    · rw [a5]; exact layer_eq 0 _ _ _ _
    · rw [a5]; exact layer_eq 1 _ _ _ _
    · rw [a6]; exact only_eq _ _ _
    · rw [a7]; exact only_eq _ _ _
    · rw [a8]; exact only_eq _ _ _

/-- The norm under one gain. -/
theorem same_Norm : Cert.algebraic_NormIdeal_NormRefIdeal := fun m ρ m' ρ' _ hagree =>
  ⟨_, ends_at (Cert.NormIdeal.Value.run_blocks m ρ) (Cert.Norm1.array_eq m), ends_at (Cert.NormRefIdeal.Value.run m' ρ')
    fun c => (ref_normed 0 _ _ _ (only_row_at _ _)).trans (congrArg₂ (normed 0) (hagree c).1 (hagree c).2)⟩

/-- The norm under two gains. -/
theorem same_NormPair : Cert.algebraic_NormPairIdeal_NormPairRefIdeal := by
  intro m ρ m' ρ' _ hagree
  refine ⟨fun c => normed 0 (m (c.tc.loc Cert.NormPairIdeal.main_arg0)) (m (c.tc.loc Cert.NormPairIdeal.main_arg1)),
    fun c => normed 1 (m (c.tc.loc Cert.NormPairIdeal.main_arg0)) (m (c.tc.loc Cert.NormPairIdeal.main_arg1)),
    (θ_run Cert.NormPairIdeal.defs _ _).mono (fun r h c => ⟨(h c).1.trans (Cert.Norm2.array_eq m c).1, (h c).2.1.trans (Cert.Norm2.array_eq m c).2, (h c).2.2⟩)
      (Cert.NormPairIdeal.Value.run_blocks m ρ),
    (θ_run Cert.NormPairRefIdeal.defs _ _).mono (fun r h c => ⟨(h c).1.trans ?_, (h c).2.1.trans ?_, (h c).2.2⟩) (Cert.NormPairRefIdeal.Value.run m' ρ')⟩
  · exact (ref_normed 0 _ _ _ (row_at 0 _ _ _)).trans (congrArg₂ (normed 0) (hagree c).1 (hagree c).2)
  · exact (ref_normed 1 _ _ _ (row_at 1 _ _ _)).trans (congrArg₂ (normed 1) (hagree c).1 (hagree c).2)

/-- The cast of the weights into the retention. -/
theorem same_WeightCast : Cert.algebraic_WeightCastIdeal_WeightCastRefIdeal := fun m ρ m' ρ' _ hagree =>
  ⟨_, ends_at (Cert.WeightCastIdeal.Value.run_blocks m ρ) (Cert.CastW.array_eq m), ends_at (Cert.WeightCastRefIdeal.Value.run m' ρ')
    fun c => (only_eq _ _ _).trans (congrArg (layer 0) (hagree c))⟩

end Cert.Proof

end
-- ==== Proof.RefTables.lean ====
/-
  The reference's tables at an index: cosine, sine, the in-chunk decay matrix and the chunk decays are the real numbers of
  RetScalar.
-/
module

public import proofs.«01_k».proof.Proof.Gen.ReferenceIdeal.Step
public import proofs.«01_k».proof.Proof.RetScalar

@[expose] public section

set_option maxRecDepth 16384

noncomputable section

namespace Cert.RetRef

open Idealize.ShloMosaic Cert.ReferenceIdeal Cert.ReferenceIdeal.Gen Cert.Ret
open Cert.ReferenceIdeal.Step

/-- The host's zero that a masked entry gets. -/
theorem id_zero : id (constant (F := Ideal) S_ .f32 0#32) ix0 = (0 : EReal) := Ideal.ofBits_zero_f32

/-- The rotary frequencies (the queries' and the keys' are the same table). -/
theorem inv_at (j : Fin 128) : K_main_v18 (F := Ideal) (ix1 j) = ((invR j : ℝ) : EReal) := by
  pointwise [K_main_v18, K_main_v17, K_main_v16, K_main_v15, K_main_v14, K_main_v13, K_main_v12, K_main_v11, K_main_v10, K_main_v9, K_main_v8, K_main_cst, K_main_cst_0, K_main_cst_1, K_main_cst_2, K_main_cst_3]
  exact inv_coe j (by norm_num)

/-- The queries' cosines. -/
theorem cos_at (t : Fin 4096) (j : Fin 128) : K_main_v25 (F := Ideal) (ix2 t j) = ((cosR t j : ℝ) : EReal) := by
  pointwise [K_main_v25, K_main_v24, K_main_v23, K_main_v22, K_main_v21, K_main_v20, K_main_v19]
  rw [inv_at, sitofp_fin t (by norm_num), ← EReal.coe_mul, cos_coe]; rfl

/-- The queries' sines. -/
theorem sin_at (t : Fin 4096) (j : Fin 128) : K_main_v27 (F := Ideal) (ix2 t j) = ((sinR t j : ℝ) : EReal) := by
  pointwise [K_main_v27, K_main_v24, K_main_v23, K_main_v22, K_main_v21, K_main_v20, K_main_v19]
  rw [inv_at, sitofp_fin t (by norm_num), ← EReal.coe_mul, sin_coe]; rfl

/-- The keys' cosines. -/
theorem kcos_at (t : Fin 4096) (j : Fin 128) : K_main_v59 (F := Ideal) (ix2 t j) = ((cosR t j : ℝ) : EReal) := cos_at t j

/-- The keys' sines. -/
theorem ksin_at (t : Fin 4096) (j : Fin 128) : K_main_v61 (F := Ideal) (ix2 t j) = ((sinR t j : ℝ) : EReal) := sin_at t j

/-- The heads' log-decays. -/
theorem ell_at (h : Fin 16) : K_main_v91 (F := Ideal) (ix1 h) = ((ellR h : ℝ) : EReal) := by
  pointwise [K_main_v91, K_main_v90, K_main_v89, K_main_v88, K_main_v87, K_main_v86, K_main_v85, K_main_v84, K_main_cst_10, K_main_cst_11]
  exact ell_coe h (by norm_num)

/-- The decays inside a chunk. -/
theorem dmat_at (h : Fin 16) (i j : Fin 128) : K_main_v108 (F := Ideal) (ix3 h i j) = ((decayR (ellR h) i j : ℝ) : EReal) := by
  pointwise [K_main_v108, K_main_call1_v2, K_main_call1_v1, K_main_call1_v0, K_main_cst_14, K_main_v107, K_main_v106, K_main_v105, K_main_v104, K_main_v103, K_main_v102, K_main_v101, K_main_call0_v1, K_main_call0_v0, K_main_cst_13, K_main_v100, K_main_v99, K_main_v98, K_main_cst_12, K_main_v97, K_main_v96, K_main_v95, K_main_v94, K_main_v93, K_main_v92]
  rw [ell_at, id_zero]
  exact decay_coe i j (by norm_num) _

/-- The decay from a chunk's start to its position `i`, one more step included. -/
theorem xi_at (h : Fin 16) (i : Fin 128) : K_main_v116 (F := Ideal) (ix2 h i) = ((Real.exp (((i : ℝ) + 1) * ellR h) : ℝ) : EReal) := by
  pointwise [K_main_v116, K_main_v115, K_main_v114, K_main_v113, K_main_v112, K_main_v111, K_main_v110, K_main_cst_15, K_main_v109, K_main_v92]
  rw [ell_at, sitofp_fin i (by norm_num), ← EReal.coe_one, ← EReal.coe_add, ← EReal.coe_mul, exp_coe]

/-- The decay from a chunk's position `i` to its last. -/
theorem zeta_at (h : Fin 16) (i : Fin 128) : K_main_v124 (F := Ideal) (ix2 h i) = ((Real.exp ((127 - (i : ℝ)) * ellR h) : ℝ) : EReal) := by
  pointwise [K_main_v124, K_main_v123, K_main_v122, K_main_v121, K_main_v120, K_main_v119, K_main_v118, K_main_cst_16, K_main_v117, K_main_v92]
  rw [ell_at, sitofp_fin i (by norm_num), lit_127, ← EReal.coe_sub, ← EReal.coe_mul, exp_coe]

/-- The decay over a whole chunk. -/
theorem gch_at (h : Fin 16) : K_main_v127 (F := Ideal) (ix1 h) = ((Real.exp (128 * ellR h) : ℝ) : EReal) := by
  pointwise [K_main_v127, K_main_v126, K_main_v125, K_main_cst_17]
  rw [ell_at, lit_128, ← EReal.coe_mul, exp_coe]

end Cert.RetRef

end
-- ==== Proof.RefChunks.lean ====
/-
  The reference's chunked queries, keys and values at an index.
-/
module

public import proofs.«01_k».proof.Proof.RefTables
public import proofs.«01_k».proof.Proof.RetProj

@[expose] public section

set_option maxRecDepth 16384

noncomputable section

namespace Cert.RetRef

open Idealize.ShloMosaic Cert.ReferenceIdeal Cert.ReferenceIdeal.Gen Cert.Ret
open Cert.ReferenceIdeal.Step

variable {x : Proj}

/-- Positions split into chunks of 128, and the chunk axis brought to the front: chunk `j`'s row `i` is position `128 j + i`. -/
theorem chunked_256 (y : S4x4096x16x256.Idx → EReal) (j : Fin 32) (b : Fin 4) (h : Fin 16) (i : Fin 128) (d : Fin 256) :
    transpose S32x4x16x128x256 [1, 0, 3, 2, 4] (shapeCast S4x32x128x16x256 y shapeCasts_S4x4096x16x256_S4x32x128x16x256) transposes_S4x32x128x16x256_S32x4x16x128x256_1_0_3_2_4
      (ix5 j b h i d) = y (ix4 b ⟨128 * (j : ℕ) + (i : ℕ), by omega⟩ h d) := by
  refine (transpose_apply _ _ _ _ (ix5 b j i h d) fun a => ?_).trans (shapeCast_apply _ _ _ _ ?_)
  · match a with
    | ⟨0, _⟩ => rfl
    | ⟨1, _⟩ => rfl
    | ⟨2, _⟩ => rfl
    | ⟨3, _⟩ => rfl
    | ⟨4, _⟩ => rfl
  · rw [rowMajor_val5 (ix5 b j i h d) 16777216 524288 4096 256 (by rfl) (by rfl) (by rfl) (by rfl), rowMajor_val4 (ix4 b (⟨128 * (j : ℕ) + (i : ℕ), by omega⟩ : Fin 4096) h d) 16777216 4096 256 (by rfl) (by rfl) (by rfl)]
    show (b : ℕ) * 16777216 + (128 * (j : ℕ) + (i : ℕ)) * 4096 + (h : ℕ) * 256 + (d : ℕ) = (b : ℕ) * 16777216 + (j : ℕ) * 524288 + (i : ℕ) * 4096 + (h : ℕ) * 256 + (d : ℕ)
    omega

/-- The same for the values. -/
theorem chunked_512 (y : S4x4096x16x512.Idx → EReal) (j : Fin 32) (b : Fin 4) (h : Fin 16) (i : Fin 128) (d : Fin 512) :
    transpose S32x4x16x128x512 [1, 0, 3, 2, 4] (shapeCast S4x32x128x16x512 y shapeCasts_S4x4096x16x512_S4x32x128x16x512) transposes_S4x32x128x16x512_S32x4x16x128x512_1_0_3_2_4
      (ix5 j b h i d) = y (ix4 b ⟨128 * (j : ℕ) + (i : ℕ), by omega⟩ h d) := by
  refine (transpose_apply _ _ _ _ (ix5 b j i h d) fun a => ?_).trans (shapeCast_apply _ _ _ _ ?_)
  · match a with
    | ⟨0, _⟩ => rfl
    | ⟨1, _⟩ => rfl
    | ⟨2, _⟩ => rfl
    | ⟨3, _⟩ => rfl
    | ⟨4, _⟩ => rfl
  · rw [rowMajor_val5 (ix5 b j i h d) 33554432 1048576 8192 512 (by rfl) (by rfl) (by rfl) (by rfl), rowMajor_val4 (ix4 b (⟨128 * (j : ℕ) + (i : ℕ), by omega⟩ : Fin 4096) h d) 33554432 8192 512 (by rfl) (by rfl) (by rfl)]
    show (b : ℕ) * 33554432 + (128 * (j : ℕ) + (i : ℕ)) * 8192 + (h : ℕ) * 512 + (d : ℕ) = (b : ℕ) * 33554432 + (j : ℕ) * 1048576 + (i : ℕ) * 8192 + (h : ℕ) * 512 + (d : ℕ)
    omega

/-- The unrotated queries. -/
theorem v3_at (hx : Finite x) (b : Fin 4) (t : Fin 4096) (h : Fin 16) (d : Fin 256) :
    A_main_v3 (F := Ideal) x (ix4 b t h d) = ((pr x (4096 * b + t) (256 * h + d) : ℝ) : EReal) := by
  pointwise [A_main_v3, A_main_v2, A_main_v1, A_main_v0]
  exact hx.at _ _ (by show (b : ℕ) * 4096 + t = _; omega) (by show (h : ℕ) * 256 + d = _; omega)

/-- The unrotated keys. -/
theorem v5_at (hx : Finite x) (b : Fin 4) (t : Fin 4096) (h : Fin 16) (d : Fin 256) :
    A_main_v5 (F := Ideal) x (ix4 b t h d) = ((pr x (4096 * b + t) (4096 + 256 * h + d) : ℝ) : EReal) := by
  pointwise [A_main_v5, A_main_v4, A_main_v1, A_main_v0]
  exact hx.at _ _ (by show (b : ℕ) * 4096 + t = _; omega) (by show 4096 + ((h : ℕ) * 256 + d) = _; omega)

/-- The values. -/
theorem v7_at (hx : Finite x) (b : Fin 4) (t : Fin 4096) (h : Fin 16) (e : Fin 512) :
    A_main_v7 (F := Ideal) x (ix4 b t h e) = ((vF x b h t e : ℝ) : EReal) := by
  pointwise [A_main_v7, A_main_v6, A_main_v1, A_main_v0]
  exact hx.at _ _ (by show (b : ℕ) * 4096 + t = _; omega) (by show 8192 + ((h : ℕ) * 512 + e) = _; omega)

/-- The rotated queries. -/
theorem v41_at (hx : Finite x) (b : Fin 4) (t : Fin 4096) (h : Fin 16) (d : Fin 256) :
    A_main_v41 (F := Ideal) x (ix4 b t h d) = ((qF x b h t d : ℝ) : EReal) := by
  pointwise [A_main_v41, A_main_v35, A_main_v32, A_main_v34, A_main_v29, A_main_v30, A_main_v37, A_main_v39, A_main_v40, K_main_v31, K_main_v26, K_main_v33, K_main_v28, K_main_v36, K_main_v38]
  unfold qF rotR
  by_cases hd : (d : ℕ) < 128
  · rw [dif_pos hd, if_pos hd, v3_at hx, v3_at hx, cos_at, sin_at]
    norm_cast
  · rw [dif_neg hd, if_neg hd, v3_at hx, v3_at hx, cos_at, sin_at]
    have : 128 + ((d : ℕ) - 128) = d := by omega
    simp only [this]
    norm_cast

/-- The rotated keys, scaled. -/
theorem v77_at (hx : Finite x) (b : Fin 4) (t : Fin 4096) (h : Fin 16) (d : Fin 256) :
    A_main_v77 (F := Ideal) x (ix4 b t h d) = ((kF x b h t d : ℝ) : EReal) := by
  pointwise [A_main_v77, K_main_v76, K_main_cst_9, A_main_v75, A_main_v63, A_main_v64, A_main_v66, A_main_v68, A_main_v69, A_main_v71, A_main_v73, A_main_v74, K_main_v65, K_main_v60, K_main_v67, K_main_v62, K_main_v70, K_main_v72]
  unfold kF rotR
  rw [lit_sixteenth]
  by_cases hd : (d : ℕ) < 128
  · rw [dif_pos hd, if_pos hd, v5_at hx, v5_at hx, kcos_at, ksin_at]
    norm_cast
  · rw [dif_neg hd, if_neg hd, v5_at hx, v5_at hx, kcos_at, ksin_at]
    have : 128 + ((d : ℕ) - 128) = d := by omega
    simp only [this]
    norm_cast

/-- Chunk `j`'s queries. -/
theorem q_chunk (hx : Finite x) (j : Fin 32) (b : Fin 4) (h : Fin 16) (i : Fin 128) (d : Fin 256) :
    A_main_v79 (F := Ideal) x (ix5 j b h i d) = ((qF x b h (128 * j + i) d : ℝ) : EReal) :=
  (chunked_256 (A_main_v41 (F := Ideal) x) j b h i d).trans (v41_at hx _ _ _ _)

/-- Chunk `j`'s keys. -/
theorem k_chunk (hx : Finite x) (j : Fin 32) (b : Fin 4) (h : Fin 16) (i : Fin 128) (d : Fin 256) :
    A_main_v81 (F := Ideal) x (ix5 j b h i d) = ((kF x b h (128 * j + i) d : ℝ) : EReal) :=
  (chunked_256 (A_main_v77 (F := Ideal) x) j b h i d).trans (v77_at hx _ _ _ _)

/-- Chunk `j`'s values. -/
theorem v_chunk (hx : Finite x) (j : Fin 32) (b : Fin 4) (h : Fin 16) (i : Fin 128) (e : Fin 512) :
    A_main_v83 (F := Ideal) x (ix5 j b h i e) = ((vF x b h (128 * j + i) e : ℝ) : EReal) :=
  (chunked_512 (A_main_v7 (F := Ideal) x) j b h i e).trans (v7_at hx _ _ _ _)

end Cert.RetRef

end
-- ==== Proof.RefStep.lean ====
/-
  One trip of the reference's loop over the real numbers: from the state before a chunk to the state after it, and the chunk's
  outputs.
-/
module

public import proofs.«01_k».proof.Proof.RefChunks

@[expose] public section

set_option maxRecDepth 16384

noncomputable section

namespace Cert.RetRef

open Idealize.ShloMosaic Cert.ReferenceIdeal Cert.ReferenceIdeal.Gen Cert.Ret
open Cert.ReferenceIdeal.Step

variable {x : Proj}

/-- What state `n` holds: the running state before position `128 n`, the outputs of the chunks so far, and the chunked
    queries, keys and values. -/
structure Holds (x : Proj) (s : State Ideal) (n : ℕ) : Prop where
  state : ∀ (b : Fin 4) (h : Fin 16) (d : Fin 256) (e : Fin 512), s.main_v130_8 (ix4 b h d e) = ((stF x b h (128 * n) d e : ℝ) : EReal)
  outs : ∀ (j : Fin 32) (b : Fin 4) (h : Fin 16) (i : Fin 128) (e : Fin 512), (j : ℕ) < n →
    s.main_v130_9 (ix5 j b h i e) = ((oF x b h (128 * j + i) e : ℝ) : EReal)
  qs : s.main_v130_0 = A_main_v79 x
  ks : s.main_v130_1 = A_main_v81 x
  vs : s.main_v130_2 = A_main_v83 x

variable {s : State Ideal}

/-- Where the loop's slices start: at the trip's number on the chunk axis, at zero on the others. -/
theorem start_val (j : Fin 32) (a : Fin 5) :
    BitVec.toInt ((![constantI S_ 32 (BitVec.ofNat 32 j), constantI S_ 32 0#32, constantI S_ 32 0#32, constantI S_ 32 0#32,
      constantI S_ 32 0#32] : Fin 5 → (⟨S_, .i32⟩ : BufTy).Contents (Elt Ideal)) a (Shape.Idx.first h_S_)) = ((![(j : ℕ), 0, 0, 0, 0] : Fin 5 → ℕ) a : ℤ) := by
  match a with
  | ⟨0, _⟩ =>
    show (BitVec.ofNat 32 (j : ℕ)).toInt = ((j : ℕ) : ℤ)
    rw [BitVec.toInt_eq_toNat_of_lt] <;> rw [BitVec.toNat_ofNat] <;> have := j.isLt <;> omega
  | ⟨1, _⟩ => rfl
  | ⟨2, _⟩ => rfl
  | ⟨3, _⟩ => rfl
  | ⟨4, _⟩ => rfl

/-- The clamped starts, for arrays whose last axis is the keys'. -/
theorem clamp_256 (j : Fin 32) (hr : S1x4x16x128x256.rank = S32x4x16x128x256.rank) (a : Fin 5) :
    Host.clampedStart S32x4x16x128x256 S1x4x16x128x256 hr (fun k => BitVec.toInt ((![constantI S_ 32 (BitVec.ofNat 32 j), constantI S_ 32 0#32, constantI S_ 32 0#32, constantI S_ 32 0#32,
      constantI S_ 32 0#32] : Fin 5 → (⟨S_, .i32⟩ : BufTy).Contents (Elt Ideal)) k (Shape.Idx.first h_S_))) a = (![(j : ℕ), 0, 0, 0, 0] : Fin 5 → ℕ) a := by
  refine Host.clampedStart_of_le _ _ _ _ (start_val j a) ?_
  match a with
  | ⟨0, _⟩ => exact j.isLt
  | ⟨1, _⟩ => exact le_rfl
  | ⟨2, _⟩ => exact le_rfl
  | ⟨3, _⟩ => exact le_rfl
  | ⟨4, _⟩ => exact le_rfl

/-- The clamped starts, for arrays whose last axis is the values'. -/
theorem clamp_512 (j : Fin 32) (hr : S1x4x16x128x512.rank = S32x4x16x128x512.rank) (a : Fin 5) :
    Host.clampedStart S32x4x16x128x512 S1x4x16x128x512 hr (fun k => BitVec.toInt ((![constantI S_ 32 (BitVec.ofNat 32 j), constantI S_ 32 0#32, constantI S_ 32 0#32, constantI S_ 32 0#32,
      constantI S_ 32 0#32] : Fin 5 → (⟨S_, .i32⟩ : BufTy).Contents (Elt Ideal)) k (Shape.Idx.first h_S_))) a = (![(j : ℕ), 0, 0, 0, 0] : Fin 5 → ℕ) a := by
  refine Host.clampedStart_of_le _ _ _ _ (start_val j a) ?_
  match a with
  | ⟨0, _⟩ => exact j.isLt
  | ⟨1, _⟩ => exact le_rfl
  | ⟨2, _⟩ => exact le_rfl
  | ⟨3, _⟩ => exact le_rfl
  | ⟨4, _⟩ => exact le_rfl

/-- The trip's queries. -/
theorem b5_at (hx : Finite x) (j : Fin 32) (hs : Holds x s j) (b : Fin 4) (h : Fin 16) (i : Fin 128) (d : Fin 256) :
    b5 (F := Ideal) j s (ix4 b h i d) = ((qF x b h (128 * j + i) d : ℝ) : EReal) := by
  rw [← q_chunk hx, ← hs.qs]
  pointwise [b5, b4, b0, b1, b2, b3]
  simp only [clamp_256 j]
  simp

/-- The trip's keys. -/
theorem b11_at (hx : Finite x) (j : Fin 32) (hs : Holds x s j) (b : Fin 4) (h : Fin 16) (i : Fin 128) (d : Fin 256) :
    b11 (F := Ideal) j s (ix4 b h i d) = ((kF x b h (128 * j + i) d : ℝ) : EReal) := by
  rw [← k_chunk hx, ← hs.ks]
  pointwise [b11, b10, b6, b7, b8, b9]
  simp only [clamp_256 j]
  simp

/-- The trip's values. -/
theorem b17_at (hx : Finite x) (j : Fin 32) (hs : Holds x s j) (b : Fin 4) (h : Fin 16) (i : Fin 128) (e : Fin 512) :
    b17 (F := Ideal) j s (ix4 b h i e) = ((vF x b h (128 * j + i) e : ℝ) : EReal) := by
  rw [← v_chunk hx, ← hs.vs]
  pointwise [b17, b16, b12, b13, b14, b15]
  simp only [clamp_512 j]
  simp

/-- The trip's outputs. -/
theorem b27_at (hx : Finite x) (j : Fin 32) (hs : Holds x s j) (b : Fin 4) (h : Fin 16) (i : Fin 128) (e : Fin 512) :
    b27 (F := Ideal) j s (ix4 b h i e) = ((oF x b h (128 * j + i) e : ℝ) : EReal) := by
  pointwise [b27, b26, b25, b24, b23, b22, b21, b20, b19, b18]
  simp only [b5_at hx j hs, b11_at hx j hs, b17_at hx j hs, hs.state, dmat_at, xi_at]
  simp only [← EReal.coe_mul, ← coe_sum, ← EReal.coe_add]
  rw [oF, outR_chunk' _ _ _ _ (128 * j) 128 i i.isLt]
  rfl

/-- The running state after the trip. -/
theorem b35_at (hx : Finite x) (j : Fin 32) (hs : Holds x s j) (b : Fin 4) (h : Fin 16) (d : Fin 256) (e : Fin 512) :
    b35 (F := Ideal) j s (ix4 b h d e) = ((stF x b h (128 * (j + 1)) d e : ℝ) : EReal) := by
  pointwise [b35, b34, b33, b32, b31, b30, b29, b28]
  simp only [b11_at hx j hs, b17_at hx j hs, hs.state, zeta_at, gch_at]
  simp only [← EReal.coe_mul, ← coe_sum, ← EReal.coe_add]
  rw [stF, stF, show 128 * ((j : ℕ) + 1) = 128 * j + 128 by ring, stateR_add]
  norm_num

/-- The stacked outputs after the trip: chunk `j` is new, the others stay. -/
theorem b41_at (j k : Fin 32) (b : Fin 4) (h : Fin 16) (i : Fin 128) (e : Fin 512) :
    b41 (F := Ideal) j s (ix5 k b h i e) = if k = j then b27 (F := Ideal) j s (ix4 b h i e) else s.main_v130_9 (ix5 k b h i e) := by
  pointwise [b41, b36, b37, b38, b39, b40]
  simp only [clamp_512 j]
  simp
  simp only [show (j ≤ k ∧ k ≤ j) ↔ k = j from ⟨fun hh => le_antisymm hh.2 hh.1, fun hh => hh ▸ ⟨le_rfl, le_rfl⟩⟩]

/-- ONE TRIP keeps what the states hold. -/
theorem Holds.step (hx : Finite x) (j : Fin 32) (hs : Holds x s j) : Holds x (Step.step j s) (j + 1) where
  state b h d e := by rw [step_main_v130_8]; exact b35_at hx j hs b h d e
  outs k b h i e hk := by
    rw [step_main_v130_9, b41_at]
    by_cases hkj : k = j
    · subst hkj; rw [if_pos rfl, b27_at hx k hs]
    · rw [if_neg hkj]
      exact hs.outs k b h i e (by have : (k : ℕ) ≠ j := fun h => hkj (Fin.ext h); omega)
  qs := hs.qs
  ks := hs.ks
  vs := hs.vs

/-- The first state: a zero running state, no outputs yet. -/
theorem Holds.init (x : Proj) : Holds x (Step.init (F := Ideal) x) 0 where
  state b h d e := by
    show K_main_v128 (F := Ideal) (ix4 b h d e) = _
    pointwise [K_main_v128, K_main_cst_18]
    simp only [stF, Nat.mul_zero, stateR_zero]; rfl
  outs j _ _ _ _ hj := absurd hj (Nat.not_lt_zero _)
  qs := rfl
  ks := rfl
  vs := rfl

end Cert.RetRef

end
-- ==== Proof.RefLoop.lean ====
/-
  The reference's loop over chunks, from its generated run (Gen/ReferenceIdeal/Run.lean): before every trip the loop's
  buffers carry a state of Gen/ReferenceIdeal/Step.lean, and one trip takes that state to `step` of it. The run's result is
  therefore the last stretch of the program applied to state 32.
-/
module

public import proofs.«01_k».proof.Proof.Gen.ReferenceIdeal.Run
public import proofs.«01_k».proof.Proof.Gen.ReferenceIdeal.Step

@[expose] public section

noncomputable section

namespace Cert.RetRef

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- What the loop's buffers hold before trip `j` when its state is `s`: the running state, the stacked outputs, the chunked
    queries, keys and values, the trip's number and the four tables. -/
def Carries (V0 : Valuation τ sig (Elt F)) (s : State F) (j : ℕ) : Prop :=
  (V0 (Proc.devRef .tc main_v130_8) = s.main_v130_8 ∧ V0 (Proc.devRef .tc main_v130_9) = s.main_v130_9) ∧
  (V0 (Proc.devRef .tc main_v130_0) = s.main_v130_0 ∧ V0 (Proc.devRef .tc main_v130_1) = s.main_v130_1 ∧
    V0 (Proc.devRef .tc main_v130_2) = s.main_v130_2) ∧
  V0 (Proc.devRef .tc main_v130_7) = constantI S_ 32 (BitVec.ofNat 32 j) ∧
  (V0 (Proc.devRef .tc main_v130_3) = Step.K_main_v108 (F := F) ∧ V0 (Proc.devRef .tc main_v130_4) = Step.K_main_v116 (F := F) ∧
    V0 (Proc.devRef .tc main_v130_5) = Step.K_main_v127 (F := F) ∧ V0 (Proc.devRef .tc main_v130_6) = Step.K_main_v124 (F := F))

variable {V0 : Valuation τ sig (Elt F)} {s : State F} {j : ℕ}

set_option maxRecDepth 8192 in
/-- The trip's query chunk is the state's. -/
theorem chunk_q (h : Carries V0 s j) : res_main_while0b_v154 V0 = Step.b5 j s := by
  obtain ⟨_, ⟨h0, _, _⟩, h7, _⟩ := h
  unfold res_main_while0b_v154; rw [h0, h7]; rfl

set_option maxRecDepth 8192 in
/-- The trip's key chunk is the state's. -/
theorem chunk_k (h : Carries V0 s j) : res_main_while0b_v155 V0 = Step.b11 j s := by
  obtain ⟨_, ⟨_, h0, _⟩, h7, _⟩ := h
  unfold res_main_while0b_v155; rw [h0, h7]; rfl

set_option maxRecDepth 8192 in
/-- The trip's value chunk is the state's. -/
theorem chunk_v (h : Carries V0 s j) : res_main_while0b_v156 V0 = Step.b17 j s := by
  obtain ⟨_, ⟨_, _, h0⟩, h7, _⟩ := h
  unfold res_main_while0b_v156; rw [h0, h7]; rfl

set_option maxRecDepth 8192 in
/-- The running state after the trip. -/
theorem next_state (h : Carries V0 s j) : step_main_v130_8 V0 = Step.b35 j s := by
  have hk := chunk_k h; have hv := chunk_v h
  obtain ⟨⟨h8, _⟩, _, _, _, _, h5, h6⟩ := h
  unfold step_main_v130_8; rw [hk, hv, h8, h5, h6]; rfl

set_option maxRecDepth 8192 in
/-- The stacked outputs after the trip. -/
theorem next_outputs (h : Carries V0 s j) : step_main_v130_9 V0 = Step.b41 j s := by
  have hq := chunk_q h; have hk := chunk_k h; have hv := chunk_v h
  obtain ⟨⟨h8, h9⟩, _, h7, h3, h4, _, _⟩ := h
  unfold step_main_v130_9; rw [hq, hk, hv, h8, h9, h7, h3, h4]; rfl

/-- The trip's number counts up by one. -/
theorem next_number (h : Carries V0 s j) : step_main_v130_7 V0 = constantI S_ 32 (BitVec.ofNat 32 (j + 1)) := by
  obtain ⟨_, _, h7, _⟩ := h
  unfold step_main_v130_7; rw [h7]
  funext i
  show BitVec.ofNat 32 j + 1#32 = BitVec.ofNat 32 (j + 1)
  simp only [BitVec.ofNat_add]

/-- One trip carries the state to `step` of it. -/
theorem carries_step (h : Carries V0 s j) : Carries (STEP V0) (step j s) (j + 1) :=
  ⟨⟨(STEP_main_v130_8 V0).trans (next_state h), (STEP_main_v130_9 V0).trans (next_outputs h)⟩,
   ⟨(STEP_main_v130_0 V0).trans h.2.1.1, (STEP_main_v130_1 V0).trans h.2.1.2.1, (STEP_main_v130_2 V0).trans h.2.1.2.2⟩,
   (STEP_main_v130_7 V0).trans (next_number h),
   (STEP_main_v130_3 V0).trans h.2.2.2.1, (STEP_main_v130_4 V0).trans h.2.2.2.2.1,
   (STEP_main_v130_5 V0).trans h.2.2.2.2.2.1, (STEP_main_v130_6 V0).trans h.2.2.2.2.2.2⟩

/-- State number `n` of the run whose projection is `x`. -/
def stateAt (x : (⟨S16384x24576, .bf16⟩ : BufTy).Contents (Elt F)) : ℕ → State F
  | 0 => init x
  | n + 1 => step n (stateAt x n)

variable (m : (ℓ : Loc nD τ sig) → Buf (Elt F) ℓ) (c : Dev nD)

set_option maxRecDepth 65536 in
set_option maxHeartbeats 700000 in
/-- The operations before the loop leave the first state, number 0 and the tables. -/
theorem carries_entry : Carries (entryContents preI m c) (stateAt (m ((c.tc : Thread nD τ).loc main_arg0)) 0) 0 := by
  refine ⟨⟨?_, ?_⟩, ⟨?_, ?_, ?_⟩, ?_, ?_, ?_, ?_, ?_⟩ <;>
    (simp only [entryContents, afterL_cons, afterL_nil]; after_reads_simp) <;> rfl

/-- Before trip `k` the loop carries state `k`. -/
theorem carries_at (k : ℕ) : Carries (STEP^[k] (entryContents preI m c)) (stateAt (m ((c.tc : Thread nD τ).loc main_arg0)) k) k := by
  induction k with
  | zero => exact carries_entry m c
  | succ k ih => rw [Function.iterate_succ_apply']; exact carries_step ih

set_option maxRecDepth 8192 in
/-- The program's result from a carried state: the head norm, the gate and the cast, of the stacked outputs. -/
theorem result_of (h : Carries V0 s j) {x0 : (⟨S16384x24576, .bf16⟩ : BufTy).Contents (Elt F)}
    (h0 : V0 (Proc.devRef .tc main_arg0) = x0) {x1 : (⟨S16x512, .f32⟩ : BufTy).Contents (Elt F)}
    (h1 : V0 (Proc.devRef .tc main_arg1) = x1) : out_main_v153 V0 = Step.R_main_v153 s x0 x1 := by
  obtain ⟨⟨_, h9⟩, _⟩ := h
  unfold out_main_v153 Step.R_main_v153; rw [h9, h0, h1]; rfl

/-- Every run of the reference ends with its result the last stretch of the program on state 32, its arguments kept. -/
theorem run_states (ρ : Dev nD → PrngReg) :
    θ_run (defs (F := F)) (onTc (τ := τ) (main (F := F))) ⟨m, fun _ => 0, ρ⟩ fun r => ∀ c : Dev nD,
      r.2.mem ((c.tc : Thread nD τ).loc main_v153) = Step.R_main_v153 (stateAt (m ((c.tc : Thread nD τ).loc main_arg0)) 32)
          (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (result_of (carries_at m c 32) (iter_main_arg0 m c 32) (iter_main_arg1 m c 32)), (h c).2⟩)
    (Value.run m ρ)

end Cert.RetRef

end
-- ==== Proof.RefResult.lean ====
/-
  The reference's result at an index: the head norm of the outputs, gated, of the real numbers of RetProj.
-/
module

public import proofs.«01_k».proof.Proof.RefStep
public import proofs.«01_k».proof.Proof.RefLoop

@[expose] public section

set_option maxRecDepth 16384

noncomputable section

namespace Cert.RetRef

open Idealize.ShloMosaic Cert.ReferenceIdeal Cert.ReferenceIdeal.Gen Cert.Ret
open Cert.ReferenceIdeal.Step (State R_main_v153)

variable {x : Proj} {s : State Ideal}

/-- Every state of the run holds what it should. -/
theorem holds_at (hx : Finite x) (n : ℕ) (hn : n ≤ 32) : Holds x (stateAt (F := Ideal) x n) n := by
  induction n with
  | zero => exact Holds.init x
  | succ n ih => exact Holds.step hx ⟨n, by omega⟩ (ih (by omega))

/-- The stacked outputs put back in order of position. -/
def flat (s : State Ideal) : S4x4096x16x512.Idx → EReal :=
  shapeCast S4x4096x16x512 (transpose S4x32x128x16x512 [1, 0, 3, 2, 4] s.main_v130_9 transposes_S32x4x16x128x512_S4x32x128x16x512_1_0_3_2_4) shapeCasts_S4x32x128x16x512_S4x4096x16x512

/-- Position `t`'s outputs are row `t % 128` of chunk `t / 128`. -/
theorem flat_at (hs : Holds x s 32) (b : Fin 4) (t : Fin 4096) (h : Fin 16) (e : Fin 512) :
    flat s (ix4 b t h e) = ((oF x b h t e : ℝ) : EReal) := by
  unfold flat
  refine (shapeCast_apply _ _ _ (ix5 b (⟨(t : ℕ) / 128, by omega⟩ : Fin 32) (⟨(t : ℕ) % 128, by omega⟩ : Fin 128) h e) ?_).trans
    ((transpose_apply _ _ _ _ (ix5 (⟨(t : ℕ) / 128, by omega⟩ : Fin 32) b h (⟨(t : ℕ) % 128, by omega⟩ : Fin 128) e) fun a => ?_).trans ?_)
  · rw [rowMajor_val5 (ix5 b (⟨(t : ℕ) / 128, by omega⟩ : Fin 32) (⟨(t : ℕ) % 128, by omega⟩ : Fin 128) h e) 33554432 1048576 8192 512 (by rfl) (by rfl) (by rfl) (by rfl), rowMajor_val4 (ix4 b t h e) 33554432 8192 512 (by rfl) (by rfl) (by rfl)]
    show (b : ℕ) * 33554432 + ((t : ℕ) / 128) * 1048576 + ((t : ℕ) % 128) * 8192 + (h : ℕ) * 512 + (e : ℕ) = (b : ℕ) * 33554432 + (t : ℕ) * 8192 + (h : ℕ) * 512 + (e : ℕ)
    omega
  · match a with
    | ⟨0, _⟩ => rfl
    | ⟨1, _⟩ => rfl
    | ⟨2, _⟩ => rfl
    | ⟨3, _⟩ => rfl
    | ⟨4, _⟩ => rfl
  · rw [hs.outs _ b h _ e (by show (t : ℕ) / 128 < 32; omega)]
    show ((oF x b h (128 * ((t : ℕ) / 128) + (t : ℕ) % 128) e : ℝ) : EReal) = _
    rw [Nat.div_add_mod]

/-- The last stretch of the program, of a state that holds every chunk's outputs. -/
theorem result_at (hx : Finite x) (hs : Holds x s 32) (g : S16x512.Idx → EReal) (r : Fin 16384) (c : Fin 8192) :
    R_main_v153 (F := Ideal) s x g (ix2 r c)
      = outV x g ((r : ℕ) / 4096) ((r : ℕ) % 4096) ⟨(c : ℕ) / 512, by omega⟩ ⟨(c : ℕ) % 512, by omega⟩ := by
  unfold R_main_v153
  have hy := flat_at hs
  unfold flat at hy
  generalize shapeCast _ (transpose S4x32x128x16x512 [1, 0, 3, 2, 4] s.main_v130_9 transposes_S32x4x16x128x512_S4x32x128x16x512_1_0_3_2_4) shapeCasts_S4x32x128x16x512_S4x4096x16x512 = y at hy ⊢
  pointwise []
  simp only [hy]
  have hg : x (ix2 r (⟨16384 + (c : ℕ), by omega⟩ : Fin 24576)) = ((gF x ((r : ℕ) / 4096) ((c : ℕ) / 512) ((r : ℕ) % 4096) ⟨(c : ℕ) % 512, by omega⟩ : ℝ) : EReal) :=
    hx.at _ _ (by omega) (by show 16384 + (c : ℕ) = 16384 + 512 * ((c : ℕ) / 512) + (c : ℕ) % 512; omega)
  rw [hg]
  have hsilu (γ : ℝ) : (γ : EReal) * Ideal.div 1 (1 + Ideal.exp (-(γ : EReal))) = ((siluR γ : ℝ) : EReal) := by
    rw [← EReal.coe_neg, exp_coe, ← EReal.coe_one, ← EReal.coe_add, div_coe _ _ (gate_ne γ), ← EReal.coe_mul]
    congr 1; unfold siluR; ring
  rw [hsilu]
  rfl

/-- THE REFERENCE'S RESULT, of a finite projection. -/
theorem result_eq (hx : Finite x) (g : S16x512.Idx → EReal) : R_main_v153 (F := Ideal) (stateAt x 32) x g = retV x g := by
  funext j
  rw [eq_ix2 j]
  exact result_at hx (holds_at hx 32 le_rfl) g (j 0) (j 1)

end Cert.RetRef

end
-- ==== Proof.Keeps.lean ====
/-
  Programs that keep what they hold. A program KEEPS an assertion when, run from it, it terminates without fault and gives it
  back. A load keeps a buffer held at some contents, so does a store into it; a sequence of programs that keep keeps, so do a
  branch, a counted loop and a checked assumption. Nothing here is about one program.
-/
module

public import Idealize.ShloMosaic.Lib.Pipeline.FrameBody
public import Idealize.ShloMosaic.Lib.Tactic

@[expose] public section

noncomputable section

namespace Cert.Keep

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}

local notation "𝕄" => MT nD τ sig Unit Val ℕ U ℕ

/-- A buffer's view held whole at some contents. -/
def held (c : Thread nD τ) {sp : Space} {sh : Shape} {e : EltTy} (m : Memref sig c.2.kind sp sh e) : sProp 𝕄 :=
  iprop(∃ X, owns c m fullShare X)

section Keeps

variable (defs : Defs nD τ sig Val Λ) (𝒱 : Variants) (c : Thread nD τ) (bd : Option 𝒱.V)

variable (U) in
/-- The program `p` gives `R` back. -/
def Keeps (R : sProp 𝕄) {α : Type} (p : Prog (TpuEff nD τ sig Val Λ c.2) α) : Prop :=
  R ⊢ wp frame (wpE (U := U) defs 𝒱 c bd) Set.univ p (fun _ => R)

variable {defs 𝒱 c bd}
variable {α β : Type} {R R' : sProp (MT nD τ sig Unit Val ℕ U ℕ)}

/-- Returning keeps anything. -/
theorem Keeps.pure (a : α) : Keeps U defs 𝒱 c bd R (pure a) :=
  le_wp_ret _ _ _ a (fun _ => R)

/-- One after the other. -/
theorem Keeps.bind {p : Prog (TpuEff nD τ sig Val Λ c.2) α} {k : α → Prog (TpuEff nD τ sig Val Λ c.2) β}
    (hp : Keeps U defs 𝒱 c bd R p) (hk : ∀ a, Keeps U defs 𝒱 c bd R (k a)) : Keeps U defs 𝒱 c bd R (p >>= k) := by
  unfold Keeps at *
  rw [wp_bind]
  exact hp.trans (wp_mono _ _ _ fun a => hk a)

/-- What is held beside stays, on the right -/
theorem Keeps.left {p : Prog (TpuEff nD τ sig Val Λ c.2) α} (hp : Keeps U defs 𝒱 c bd R p) :
    Keeps U defs 𝒱 c bd iprop(R ∗ R') p :=
  (sep_mono_left hp).trans (wp_frame_r _ _ _)

/-- and on the left. -/
theorem Keeps.right {p : Prog (TpuEff nD τ sig Val Λ c.2) α} (hp : Keeps U defs 𝒱 c bd R p) :
    Keeps U defs 𝒱 c bd iprop(R' ∗ R) p :=
  (sep_mono_right hp).trans (wp_frame_l _ _ _)

variable (U defs 𝒱 bd) in
/-- What is held, `R`, has the buffer `m` in it: a program that keeps `m` held keeps `R`. -/
class Has {sp : Space} {sh : Shape} {e : EltTy} (R : sProp (MT nD τ sig Unit Val ℕ U ℕ)) (m : Memref sig c.2.kind sp sh e) : Prop where
  lift {γ : Type} {p : Prog (TpuEff nD τ sig Val Λ c.2) γ} : Keeps U defs 𝒱 c bd (held (U := U) c m) p → Keeps U defs 𝒱 c bd R p

instance Has.here {sp : Space} {sh : Shape} {e : EltTy} {m : Memref sig c.2.kind sp sh e} :
    Has U defs 𝒱 bd iprop(held (U := U) c m ∗ R') m := ⟨fun h => h.left⟩

instance (priority := low) Has.there {sp : Space} {sh : Shape} {e : EltTy} {m : Memref sig c.2.kind sp sh e}
    [Has U defs 𝒱 bd R' m] : Has U defs 𝒱 bd iprop(R ∗ R') m := ⟨fun h => (Has.lift h).right⟩

/-- A load of a buffer held. -/
theorem Keeps.load {cs : CoreSpace} {s : Shape} {e : EltTy} {m : Memref sig c.2.kind cs s e} {r : LoadRect s} {hl : m.view.LoadsAt r} :
    Keeps U defs 𝒱 c bd (held (U := U) c m) (Prog.lift (.load m r hl)) := by
  unfold Keeps held owns
  iintro ⟨%X, %f, %hf, H⟩
  iapply (wp_load 𝒱 c bd Set.univ (m := m) (View.setOn_subset_set _ _)) $$ H
  iintro H
  iapply (le_wp_ret _ _ _ _ _)
  iexists X; iexists f; isplitr
  · ipureintro; exact hf
  iexact H

/-- A store into a buffer held. -/
theorem Keeps.store {cs : CoreSpace} {s : Shape} {e : EltTy} {m : Memref sig c.2.kind cs s e} {r : Rect s} {w : r.shape.Idx → Val e}
    {Mk : Finset r.shape.Idx} {hx : (m.access r).Stores Mk} {hm : Mk = Finset.univ ∨ ∀ a, r.stride a = 1} :
    Keeps U defs 𝒱 c bd (held (U := U) c m) (Prog.lift (.store m r w Mk hx hm)) := by
  unfold Keeps held owns
  iintro ⟨%X, %f, %hf, H⟩
  iapply (wp_store 𝒱 c bd Set.univ (m := m) (r := r) (Mk := Mk)
    ((View.setOn_subset_set _ _).trans (View.set_slice_subset _ _))) $$ H
  iintro H
  iapply (le_wp_ret _ _ _ _ _)
  iexists _; iexists _; isplitr
  swap; · iexact H
  ipureintro; rfl

/-- A load of a buffer among those held -/
theorem Keeps.loads {cs : CoreSpace} {s : Shape} {e : EltTy} {m : Memref sig c.2.kind cs s e} [Has U defs 𝒱 bd R m]
    {r : LoadRect s} {hl : m.view.LoadsAt r} : Keeps U defs 𝒱 c bd R (Prog.lift (.load m r hl)) :=
  Has.lift Keeps.load

/-- and a store into one. -/
theorem Keeps.stores {cs : CoreSpace} {s : Shape} {e : EltTy} {m : Memref sig c.2.kind cs s e} [Has U defs 𝒱 bd R m]
    {r : Rect s} {w : r.shape.Idx → Val e} {Mk : Finset r.shape.Idx} {hx : (m.access r).Stores Mk}
    {hm : Mk = Finset.univ ∨ ∀ a, r.stride a = 1} : Keeps U defs 𝒱 c bd R (Prog.lift (.store m r w Mk hx hm)) :=
  Has.lift Keeps.store

/-- An assumption that holds. -/
theorem Keeps.assume {P : Prop} {d : Decidable P} (h : P) : Keeps U defs 𝒱 c bd R (Prog.lift (.assume P d)) := by
  unfold Keeps
  iintro H
  iapply (wp_assume 𝒱 c bd Set.univ h)
  iapply (le_wp_ret _ _ _ _ _)
  iexact H

/-- A counted loop whose trips keep. -/
theorem Keeps.loop {w : Nat} {lb ub st : BitVec w} {hok : Scf.OK lb ub st} {init : α}
    {body : Fin (Scf.trips lb ub st) → α → Prog (TpuEff nD τ sig Val Λ c.2) α}
    (hb : ∀ k a, Keeps U defs 𝒱 c bd R (body k a)) : Keeps U defs 𝒱 c bd R (Scf.for lb ub st hok init body) := by
  unfold Keeps at *
  iintro H
  iapply (Scf.wp_for frame (wpE (U := U) defs 𝒱 c bd) Set.univ lb ub st hok init body (fun _ _ => R) hb)
  isplitl [H]
  · iexact H
  iintro %a H
  iexact H

/-- A call of a label whose body keeps at a variant below the caller's. -/
theorem Keeps.call {ℓ : Λ.Label} {a : Λ.Args ℓ} (v : 𝒱.V) (hv : ∀ u ∈ bd, 𝒱.lt v u)
    (h : Keeps U defs 𝒱 c (some v) R (defs c.2 ℓ a)) : Keeps U defs 𝒱 c bd R (Prog.lift (.call ℓ a)) := by
  unfold Keeps at *
  refine h.trans (BIBase.Entails.trans (wp_mono _ _ _ fun x => ?_) (wp_call 𝒱 c bd Set.univ v hv))
  exact le_wp_ret _ _ _ x (fun _ => R)

end Keeps

end Cert.Keep

end
-- ==== Proof.Stick.Common.lean ====
/-
  What the stick-breaking attention call's frame takes from outside its program: how many earlier key tiles its inner loop has,
  how the assertions around its body regroup, and what a finished run whose windows are all forgotten says of the arrays.
-/
module

public import proofs.«01_k».proof.Proof.Keeps
public import Idealize.ShloMosaic.Lib.Claim
public import Mathlib.Tactic.IntervalCases

@[expose] public section

set_option maxRecDepth 16384
set_option maxHeartbeats 4000000

noncomputable section

namespace Cert.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The tiles before query row `q`'s, as the loop's test computes them. -/
def tiles (q : BitVec 32) : BitVec 32 :=
  let n := Scalar.muli q 4#32
  let s : BitVec 32 := Scalar.subi (Scalar.extui (Scalar.cmpi .sgt n 0#32)) (Scalar.extui (Scalar.cmpi .slt n 0#32))
  let o : BitVec 32 := Scalar.subi (Scalar.extui (Scalar.cmpi .sgt 1#32 0#32)) (Scalar.extui (Scalar.cmpi .slt 1#32 0#32))
  let d := Scalar.divsi n 1#32
  Scalar.select (Scalar.andi (Scalar.cmpi .ne s o) (Scalar.cmpi .ne (Scalar.remsi n 1#32) 0#32)) (Scalar.subi d 1#32) d

/-- Where the test lets the loop go on, a tile is left. -/
theorem goes_on : ∀ (q : Fin 4) (j : Fin 17) (b : Fin 2),
    Scalar.andi (Scalar.cmpi .slt (BitVec.ofNat 32 j.val) (tiles (BitVec.ofNat 32 q.val))) (BitVec.ofFin (w := 1) b) = 1#1 →
      j.val < 4 * q.val := by decide

section Regroup

variable {M : Type} [URA M] {S0 S1 S2 G O W0 W1 W2 W3 W4 W5 : sProp M}

/-- From the region's order to the body's: the scratch buffers last, the rest of the invariant aside -/
theorem regroup : iprop(((S0 ∗ S1 ∗ S2) ∗ G) ∗ O ∗ W0 ∗ W1 ∗ W2 ∗ W3 ∗ W4 ∗ W5)
    ⊢ iprop((G ∗ O) ∗ W0 ∗ W1 ∗ W2 ∗ W3 ∗ W4 ∗ W5 ∗ S0 ∗ S1 ∗ S2 ∗ emp) := by
  iintro ⟨⟨⟨S0, S1, S2⟩, Hg⟩, Ho, W0, W1, W2, W3, W4, W5⟩
  isplitl [Hg Ho]
  · isplitl [Hg]; · iexact Hg
    iexact Ho
  isplitl [W0]; · iexact W0
  isplitl [W1]; · iexact W1
  isplitl [W2]; · iexact W2
  isplitl [W3]; · iexact W3
  isplitl [W4]; · iexact W4
  isplitl [W5]; · iexact W5
  isplitl [S0]; · iexact S0
  isplitl [S1]; · iexact S1
  isplitl [S2]; · iexact S2
  iempintro

/-- and back. -/
theorem regroup_back : iprop((G ∗ O) ∗ W0 ∗ W1 ∗ W2 ∗ W3 ∗ W4 ∗ W5 ∗ S0 ∗ S1 ∗ S2 ∗ emp)
    ⊢ iprop(((S0 ∗ S1 ∗ S2) ∗ G) ∗ O ∗ W0 ∗ W1 ∗ W2 ∗ W3 ∗ W4 ∗ W5) := by
  iintro ⟨⟨Hg, Ho⟩, W0, W1, W2, W3, W4, W5, S0, S1, S2, -⟩
  isplitl [S0 S1 S2 Hg]
  · isplitl [S0 S1 S2]
    · isplitl [S0]; · iexact S0
      isplitl [S1]; · iexact S1
      iexact S2
    iexact Hg
  isplitl [Ho]; · iexact Ho
  isplitl [W0]; · iexact W0
  isplitl [W1]; · iexact W1
  isplitl [W2]; · iexact W2
  isplitl [W3]; · iexact W3
  isplitl [W4]; · iexact W4
  iexact W5

end Regroup

end Cert.Keep

end
-- ==== Proof.Stick.Ideal.lean ====
/-
  The stick-breaking attention call, idealized: it runs, ends and leaves its arguments as they were. What its buffers
  hold along the way is not followed: the whole body keeps its six windows and three scratch buffers held at SOME contents. Its
  inner loop reads the strictly earlier key tiles one after the other, from the one next to the diagonal down, and is left after
  at most the four tiles of each query row before it, whatever the test of dead rows says.
-/
module

public import proofs.«01_k».proof.Proof.Gen.StickIdeal.Launch
public import proofs.«01_k».proof.Proof.Gen.StickIdeal.Points
public import proofs.«01_k».proof.Proof.Gen.StickIdeal.Skeleton
public import proofs.«01_k».proof.Proof.Stick.Common

@[expose] public section

set_option maxRecDepth 16384
set_option maxHeartbeats 4000000

noncomputable section

namespace Cert.StickIdeal.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Keep Cert.StickIdeal.Gen

variable {F : FTy → Type} [FloatOps F]

local notation "𝕄" => MT nD τ sig Unit (Elt F) ℕ (UR sig nD τ) ℕ

section Body

variable (c : Dev nD) (i : grid0.Coords)
  (arg3 : Memref sig .tc .vmem S1024x128 .bf16) (harg3 : arg3.IsWhole)
  (arg4 : Memref sig .tc .vmem S4096x128 .bf16) (harg4 : arg4.IsWhole)
  (arg5 : Memref sig .tc .vmem S4096x128 .bf16) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S1024x128 .bf16) (harg8 : arg8.IsWhole)
  (arg9 : Memref sig .tc .vmem S4096x128 .bf16) (harg9 : arg9.IsWhole)
  (arg10 : Memref sig .tc .vmem S1024x128 .f32) (harg10 : arg10.IsWhole)
  (arg11 : Memref sig .tc .vmem S1024x1 .f32) (harg11 : arg11.IsWhole)

/-- The body's windows and scratch buffers, each held at some contents. -/
abbrev room : sProp 𝕄 :=
  iprop(held (c : Thread nD τ) arg3 ∗ held (c : Thread nD τ) arg4 ∗ held (c : Thread nD τ) arg5 ∗ held (c : Thread nD τ) arg6
    ∗ held (c : Thread nD τ) arg7 ∗ held (c : Thread nD τ) arg8 ∗ held (c : Thread nD τ) arg9 ∗ held (c : Thread nD τ) arg10
    ∗ held (c : Thread nD τ) arg11 ∗ emp)

variable (bd : Option Variants.nat.V)

/-- The body's program keeps them. -/
abbrev Kept {α : Type} (p : Prog (TpuEff nD τ sig (Elt F) (Λ₀ F) .tc) α) : Prop :=
  Keeps (UR sig nD τ) (defs₀ (F := F)) Variants.nat (c : Thread nD τ) bd
    (room (F := F) c arg3 arg4 arg5 arg6 arg7 arg8 arg9 arg10 arg11) p

/-- A tile that is left is in the array of keys. -/
theorem in_keys (j : Nat) (h : j < 4 * (i 2).val) : k0_chk1 i (BitVec.ofNat 32 j) := by
  have hq : (i 2).val < 4 := (i 2).isLt
  unfold k0_chk1 k0_mult6 k0_off3
  generalize (i 2).val = q at h hq ⊢
  interval_cases q <;> interval_cases j <;> decide

/-- The loop keeps the buffers, entered with `n` tiles left. -/
theorem loop (v21 : FVec F S1024x128 .bf16) (v35 : FVec F S256x256 .bf16) (n j : Nat) (h : j + n = 4 * (i 2).val) (b : BitVec 1) :
    Kept c arg3 arg4 arg5 arg6 arg7 arg8 arg9 arg10 arg11 (some n)
      (cc0_while1 (F := F) i arg9 harg9 v21 v35 arg11 harg11 arg10 harg10 arg5 harg5 (BitVec.ofNat 32 j) b) := by
  induction n generalizing j b with
  | zero =>
    rw [cc0_while1_eq_skeleton]; unfold cc0_while1_skel
    dsimp only
    split
    · next ht =>
      have hq : (i 2).val < 4 := (i 2).isLt
      have := goes_on ⟨_, hq⟩ ⟨j, by omega⟩ b.toFin ht
      exact absurd this (by simp only; omega)
    · exact Keeps.pure _
  | succ n ih =>
    rw [cc0_while1_eq_skeleton]; unfold cc0_while1_skel
    dsimp only
    split
    · refine Keeps.bind ?_ fun x => ?_
      · rw [k0_part8_eq_skeleton]; unfold k0_part8_skel
        refine Keeps.bind (Keeps.assume (in_keys i j (by omega))) fun _ => ?_
        repeat' first | with_reducible refine Keeps.bind ?_ fun _ => ?_ | with_reducible exact Keeps.pure _ | exact Keeps.loads | exact Keeps.stores
      rcases x with ⟨v323, v324, v333⟩
      dsimp only
      refine Keeps.bind Keeps.loads fun _ => ?_
      refine Keeps.bind Keeps.stores fun _ => ?_
      refine Keeps.bind Keeps.loads fun _ => ?_
      refine Keeps.bind Keeps.stores fun _ => ?_
      refine Keeps.bind Keeps.loads fun _ => ?_
      refine Keeps.call (n : Nat) (fun u hu => by cases hu; exact Nat.lt_succ_self n) ?_
      have e : Scalar.addi (BitVec.ofNat 32 j) 1#32 = BitVec.ofNat 32 (j + 1) := (BitVec.ofNat_add j 1).symm
      rw [e]
      exact ih (j + 1) (by omega) _
    · exact Keeps.pure _

/-- The whole body keeps its buffers. -/
theorem body : Kept c arg3 arg4 arg5 arg6 arg7 arg8 arg9 arg10 arg11 none (cc0_sb_attention (F := F) i arg3 harg3 arg4 harg4 arg5 harg5 arg6 harg6 arg7 harg7 arg8 harg8 arg9 harg9 arg10 harg10 arg11 harg11) := by
  rw [cc0_sb_attention_eq_skeleton]; unfold cc0_sb_attention_skel
  refine Keeps.bind ?_ fun x => ?_
  · rw [k0_part1_eq_skeleton]; unfold k0_part1_skel
    dsimp only
    split
    · refine Keeps.bind (Keeps.loop fun k x => ?_) fun _ => ?_
      · unfold k0_t1_body
        repeat' first | with_reducible refine Keeps.bind ?_ fun _ => ?_ | with_reducible exact Keeps.pure _ | exact Keeps.loads | exact Keeps.stores
      repeat' first | with_reducible refine Keeps.bind ?_ fun _ => ?_ | with_reducible exact Keeps.pure _ | exact Keeps.loads | exact Keeps.stores
    · repeat' first | with_reducible refine Keeps.bind ?_ fun _ => ?_ | with_reducible exact Keeps.pure _ | exact Keeps.loads | exact Keeps.stores
  rcases x with ⟨arg2, v21, v35, v36⟩
  refine Keeps.bind ?_ fun x => ?_
  · rw [k0_part2_eq_skeleton]; unfold k0_part2_skel
    repeat' first | with_reducible refine Keeps.bind ?_ fun _ => ?_ | with_reducible exact Keeps.pure _ | exact Keeps.loads | exact Keeps.stores
  rcases x with ⟨v39, v65, v71, v74, v76, v78, v79⟩
  refine Keeps.bind ?_ fun x => ?_
  · rw [k0_part3_eq_skeleton]; unfold k0_part3_skel
    repeat' first | with_reducible refine Keeps.bind ?_ fun _ => ?_ | with_reducible exact Keeps.pure _ | exact Keeps.loads | exact Keeps.stores
  rcases x with ⟨v104, v110, v113, v115, v117, v121, v123⟩
  refine Keeps.bind ?_ fun x => ?_
  · rw [k0_part4_eq_skeleton]; unfold k0_part4_skel
    repeat' first | with_reducible refine Keeps.bind ?_ fun _ => ?_ | with_reducible exact Keeps.pure _ | exact Keeps.loads | exact Keeps.stores
  rcases x with ⟨v143, v149, v152, v154, v156, v159, v163, v167⟩
  refine Keeps.bind ?_ fun x => ?_
  · rw [k0_part5_eq_skeleton]; unfold k0_part5_skel
    repeat' first | with_reducible refine Keeps.bind ?_ fun _ => ?_ | with_reducible exact Keeps.pure _ | exact Keeps.loads | exact Keeps.stores
  rcases x with ⟨v181, v187, v190, v209⟩
  refine Keeps.bind ?_ fun x => ?_
  · rw [k0_part6_eq_skeleton]; unfold k0_part6_skel
    repeat' first | with_reducible refine Keeps.bind ?_ fun _ => ?_ | with_reducible exact Keeps.pure _ | exact Keeps.loads | exact Keeps.stores
  refine Keeps.bind ?_ fun x => ?_
  · rw [k0_part7_eq_skeleton]; unfold k0_part7_skel
    repeat' first | with_reducible refine Keeps.bind ?_ fun _ => ?_ | with_reducible exact Keeps.pure _ | exact Keeps.loads | exact Keeps.stores
  rcases x with ⟨v268, v282⟩
  refine Keeps.bind Keeps.loads fun v285 => ?_
  refine Keeps.bind (Keeps.call (4 * (i 2).val : Nat) (fun u hu => by cases hu)
    (loop c i arg3 arg4 arg5 harg5 arg6 arg7 arg8 arg9 harg9 arg10 harg10 arg11 harg11 v21 v35 _ 0 (Nat.zero_add _) _)) fun x => ?_
  rcases x with ⟨v0, v1⟩
  refine Keeps.bind Keeps.loads fun _ => ?_
  refine Keeps.bind Keeps.loads fun _ => ?_
  refine Keeps.bind Keeps.stores fun _ => ?_
  exact Keeps.pure _

end Body

variable (m : (ℓ : Loc nD τ sig) → Buf (Elt F) ℓ) (ρ : Dev nD → PrngReg)

/-- What the TensorCore's buffers hold when the region is entered: what the host operations before it leave. -/
abbrev V (c : Dev nD) (b : Ref sig .tc) : Buf (Elt F) ((c : Thread nD τ).loc b) := StableHlo.after hostOps0 (fun b => m (c, b)) b

/-- No host operation before the region opens a buffer of its own. -/
theorem fresh : (hostOps0 : List (HloOp τ sig (Elt F))).Forall fun op => op.fresh = ∅ := by
  simp only [List.Forall]; repeat' constructor

/-- The program up to the region. -/
theorem before : Pipeline.HMain (Ix := Unit) (Name := ℕ) (U := UR sig nD τ) (Lvl := ℕ) cfgs 0 defs₀ Variants.nat m (main (F := F)) (V m) :=
  Pipeline.hmain_prefix cfgs 0 defs₀ Variants.nat m main hostOps0 hostOps0_sub fresh main_chain

/-- A buffer none of the host operations writes is found as launched. -/
theorem V_of (c : Dev nD) (b : Ref sig .tc)
    (h : (hostOps0 : List (HloOp τ sig (Elt F))).Forall fun op => Proc.devRef (τ := τ) .tc b ∉ op.writes) :
    V m c b = m ((c : Thread nD τ).loc b) :=
  StableHlo.after_of_forall_not_mem (b := Proc.devRef .tc b) _ _ (List.forall_iff_forall_mem.mp h)

/-- The region's data: its arrays as found; what the body leaves is not followed. -/
def dats (_ : Fin 1) (c : Dev nD) : Dat τ (Elt F) Unit ℕ (UR sig nD τ) ℕ (cfg0 (F := F)) c where
  A w := V m c (Pipeline.arrRef spec0 w)
  after w t := Classical.arbitrary _
  Φ _ := Pipeline.ΦA spec0 c
  q w := Pipeline.shareOf spec0 w
  owed _ := 0

/-- The data's arrays are the region's, -/
theorem arrays (c : Dev nD) (w : Fin 6) : (dats m 0 c).A w = V m c (Pipeline.arrRef spec0 w) := by dsimp only [dats]

/-- and its invariant is the same at every point. -/
theorem between (c : Dev nD) (t) : (dats m 0 c).Φ t = Pipeline.ΦA spec0 c := by dsimp only [dats]

/-- The invariant between points: the scratch buffers held, and the generator's register. -/
theorem invariant (c : Dev nD) :
    (Pipeline.ΦA spec0 c : sProp 𝕄)
      = iprop(iprop(held (c : Thread nD τ) (Memref.whole cc0_scratch0) ∗ held (c : Thread nD τ) (Memref.whole cc0_scratch1)
          ∗ held (c : Thread nD τ) (Memref.whole cc0_scratch2)) ∗ (∃ r, prngReg c r)) := by
  unfold Pipeline.ΦA held; rw [scopedRest0_eq]; simp only [owns_whole]; try rfl

/-- The body table's row at point `t` is the body. -/
theorem row (t : Fin cfg0.N) : defs₀ (F := F) .tc cfg0.body (cfg0.bodyArgs t (cfg0.slots t)) = bodyAt0 t := by
  unfold defs₀; rw [Defs.onTc_tc]

/-- At every point the body, given the invariant and its windows at some contents, gives them back. -/
theorem obligation (c : Dev nD) :
    Pipeline.BodyObligationLoose (dats (F := F) m 0 c) (defs₀ (F := F)) Variants.nat () Set.univ (fun _ => true) := fun t => by
  rw [bigSep_W0, row]
  dsimp only
  rw [between, between, show (dats m 0 c).owesAt () t.succ = (dats m 0 c).owesAt () t.castSucc from rfl, invariant]
  unfold held
  have h := Keeps.right (R' := iprop((∃ r, prngReg c r) ∗ (dats m 0 c).owesAt () t.castSucc)) (body (F := F) c (grid0.coords t)
    (win0_0.stage ((cfg0 (F := F)).slots t 0)) (hstage0_0 (((cfg0 (F := F)).slots t 0).cast nbuf0_0))
    (win0_1.stage ((cfg0 (F := F)).slots t 1)) (hstage0_1 (((cfg0 (F := F)).slots t 1).cast nbuf0_1))
    (win0_2.stage ((cfg0 (F := F)).slots t 2)) (hstage0_2 (((cfg0 (F := F)).slots t 2).cast nbuf0_2))
    (win0_3.stage ((cfg0 (F := F)).slots t 3)) (hstage0_3 (((cfg0 (F := F)).slots t 3).cast nbuf0_3))
    (win0_4.stage ((cfg0 (F := F)).slots t 4)) (hstage0_4 (((cfg0 (F := F)).slots t 4).cast nbuf0_4))
    (win0_5.stage ((cfg0 (F := F)).slots t 5)) (hstage0_5 (((cfg0 (F := F)).slots t 5).cast nbuf0_5))
    (Memref.whole cc0_scratch0) (Memref.isWhole_whole _)
    (Memref.whole cc0_scratch1) (Memref.isWhole_whole _)
    (Memref.whole cc0_scratch2) (Memref.isWhole_whole _))
  unfold Keeps room held at h
  exact triple_restated h rfl regroup fun _ => regroup_back

set_option backward.isDefEq.respectTransparency.types false in
/-- The run: the arrays no window writes end as they were found, and the counters at zero. -/
theorem run : θ_run defs (onTc (τ := τ) (main (F := F))) (s₀ m ρ) (fun r =>
    Pipeline.RDat.FramePost cfg0 (fun c => (dats m 0 c).toRForget fun _ => true) (V m) r ∧ r.2.sem = fun _ => 0) :=
  Pipeline.θ_run_frame_forget_shared (Q' := _) cfgs (dats m) (0 : Fin 1) launch₀0 defs₀ Variants.nat (fun _ => true) m ρ main
    (hbody := obligation m) (hq := fun _ _ _ => rfl) (howed := fun _ _ => rfl) (V := V m) (hmain := before m)
    (hA := arrays m) (hΦ := between m) (hQ' := fun _ h => h)

/-- An array a window only reads ends as launched. -/
theorem read_only {r : PUnit × MemSt nD τ sig (Elt F)}
    (h : Pipeline.RDat.FramePost (cfg0 (F := F)) (fun c => (dats m 0 c).toRForget fun _ => true) (V m) r) (c : Dev nD) (w : Fin 6)
    (hw : ((cfg0 (F := F)).win w).isOut = false) :
    r.2.mem (((cfg0 (F := F)).spec w).arr.view.loc (c.tc : Thread nD τ)) = V m c (Pipeline.arrRef spec0 w) := by
  have e := congrFun (Pipeline.RDat.ArrAt_in ((dats (F := F) m 0 c).toRForget fun _ => true) w hw (cfg0 (F := F)).N)
    (r.2.mem (((cfg0 (F := F)).spec w).arr.view.loc (c.tc : Thread nD τ)))
  unfold Pipeline.RDat.FramePost at h
  exact (e.mp ((h c).1 w)).trans (arrays m c w)

/-- An array no window is on ends as launched. -/
theorem apart {r : PUnit × MemSt nD τ sig (Elt F)}
    (h : Pipeline.RDat.FramePost (cfg0 (F := F)) (fun c => (dats m 0 c).toRForget fun _ => true) (V m) r) (c : Dev nD)
    (b : Ref sig .tc) (hb : b ∈ Pipeline.restRefs sig spec0) : r.2.mem ((c.tc : Thread nD τ).loc b) = V m c b := by
  unfold Pipeline.RDat.FramePost at h
  exact (h c).2 b hb

/-- No window is on the two gains. -/
theorem unstaged2 : main_arg2 ∈ Pipeline.restRefs sig spec0 := Pipeline.mem_restRefs_of main_arg2 (by decide) (by decide)
theorem unstaged3 : main_arg3 ∈ Pipeline.restRefs sig spec0 := Pipeline.mem_restRefs_of main_arg3 (by decide) (by decide)

/-- No host operation writes an argument. -/
theorem kept : ∀ b ∈ [main_arg0, main_arg1, main_arg2, main_arg3], ∀ c, V m c b = m ((c : Thread nD τ).loc b) := by
  intro b hb c
  refine V_of m c b ?_
  simp only [hostOps0, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  simp only [List.mem_cons, List.not_mem_nil, or_false] at hb
  rcases hb with rfl | rfl | rfl | rfl <;> (repeat' apply And.intro) <;> exact StableHlo.devRef_ne_of_ne (by decide)

/-- The frame: the call ends, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ⟨?_, ?_, ?_, ?_⟩, h.2⟩) (run m ρ)
  · exact (read_only m h.1 c 0 rfl).trans (kept m main_arg0 (by simp) c)
  · exact (read_only m h.1 c 2 rfl).trans (kept m main_arg1 (by simp) c)
  · exact (apart m h.1 c main_arg2 unstaged2).trans (kept m main_arg2 (by simp) c)
  · exact (apart m h.1 c main_arg3 unstaged3).trans (kept m main_arg3 (by simp) c)

end Cert.StickIdeal.Keep

end
-- ==== Proof.lean ====
/-
  The proof of `Cert.Claim`: the retention call of a two-layer decoder trunk and the matrix products, norms and cast around it.
  Over the reals the retention and its reference end at `Cert.Ret.retV` of the projection and the head norm's gain (`Proof/KerResult` and
  `Proof/RefResult`); the projections and theirs end at the product of their arguments, the norms at the normed rows (`Proof/MmClaims`).
  The stick-breaking attention call is shown to run and to keep its arguments (`Proof/Stick`).
-/
module

public import proofs.«01_k».proof.Defs
public import proofs.«01_k».proof.Proof.KerResult
public import proofs.«01_k».proof.Proof.MmClaims
public import proofs.«01_k».proof.Proof.RefResult
public import proofs.«01_k».proof.Proof.Stick.Bits
public import proofs.«01_k».proof.Proof.Stick.Ideal
public import proofs.«01_k».proof.Proof.Gen.Kernel.Frame
public import proofs.«01_k».proof.Proof.Gen.KernelIdeal.Frame
public import proofs.«01_k».proof.Proof.Gen.KernelIdeal.Value
public import proofs.«01_k».proof.Proof.Gen.InProj.Frame
public import proofs.«01_k».proof.Proof.Gen.InProjIdeal.Frame
public import proofs.«01_k».proof.Proof.Gen.OutProj.Frame
public import proofs.«01_k».proof.Proof.Gen.OutProjIdeal.Frame
public import proofs.«01_k».proof.Proof.Gen.KvProj.Frame
public import proofs.«01_k».proof.Proof.Gen.KvProjIdeal.Frame
public import proofs.«01_k».proof.Proof.Gen.QueryProj.Frame
public import proofs.«01_k».proof.Proof.Gen.QueryProjIdeal.Frame
public import proofs.«01_k».proof.Proof.Gen.PeerProj.Frame
public import proofs.«01_k».proof.Proof.Gen.PeerProjIdeal.Frame
public import proofs.«01_k».proof.Proof.Gen.SbOutProj.Frame
public import proofs.«01_k».proof.Proof.Gen.SbOutProjIdeal.Frame
public import proofs.«01_k».proof.Proof.Gen.Norm.Frame
public import proofs.«01_k».proof.Proof.Gen.NormIdeal.Frame
public import proofs.«01_k».proof.Proof.Gen.NormPair.Frame
public import proofs.«01_k».proof.Proof.Gen.NormPairIdeal.Frame
public import proofs.«01_k».proof.Proof.Gen.WeightCast.Frame
public import proofs.«01_k».proof.Proof.Gen.WeightCastIdeal.Frame

@[expose] public section

set_option maxRecDepth 16384

noncomputable section

namespace Cert.Proof

open Idealize.ShloMosaic Idealize.SL.Sem

/-- The precondition's side conditions. -/
instance preFacts : Cert.Pre_finite_projection.Facts where
  bitsLt_bf16_f32 := by decide
  bcast_S_S16384x24576 := by decide

/-- The precondition says that every number of the projection is finite. -/
theorem finite_of_pre {x : Cert.Ret.Proj} {g : Cert.Pre_finite_projection.S16x512.Idx → EReal}
    (h : Cert.Pre_finite_projection.fn (F := Ideal) x g = fun _ => 1#1) : Cert.Ret.Finite x := by
  intro i
  have hi := congrFun h i
  unfold Cert.Pre_finite_projection.fn at hi
  replace hi : Ideal.cmp .olt (max (x i) (-(x i))) (Ideal.ofBits .f32 0x7F800000#32) = 1#1 := hi
  rw [show Ideal.ofBits .f32 0x7F800000#32 = ⊤ by simp [Ideal.ofBits, Ideal.ieee]] at hi
  refine ⟨fun h => ?_, fun h => ?_⟩ <;> rw [h] at hi <;> simp [Ideal.cmp] at hi

/-- The retention's reference keeps its arguments and ends with every counter at zero. -/
theorem quiet_reference : Cert.quiescent_ReferenceIdeal := fun m ρ _ =>
  quiet_of (by decide) (Cert.RetRef.run_states m ρ) fun _ _ h => h.2

/-- Over the reals the kernel and the reference end at the same array. -/
theorem same : Cert.algebraic_KernelIdeal_ReferenceIdeal_pre_finite_projection := by
  intro m ρ m' ρ' hpre hagree
  have hx := fun c => finite_of_pre (hpre c)
  refine ⟨fun c => Cert.Ret.retV (m (c.tc.loc Cert.KernelIdeal.main_arg0)) (m (c.tc.loc Cert.KernelIdeal.main_arg1)),
    (θ_run Cert.KernelIdeal.defs _ _).mono (fun r h c => ⟨(h c).1.trans (Cert.RetKer.array_eq m c (hx c)), (h c).2⟩)
      (Cert.KernelIdeal.Value.run_blocks m ρ),
    (θ_run Cert.ReferenceIdeal.defs _ _).mono (fun r h c => ⟨(h c).1.trans ?_, (h c).2⟩) (Cert.RetRef.run_states m' ρ')⟩
  rw [(hagree c).1, (hagree c).2]
  exact Cert.RetRef.result_eq (hx c) _

theorem claim : Cert.Claim := by
  refine ⟨Cert.Kernel.Gen.facts, Cert.KernelIdeal.Gen.facts, Cert.ReferenceIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    Cert.KvProj.Gen.facts, Cert.KvProjIdeal.Gen.facts, Cert.KvProjRefIdeal.Gen.facts,
    Cert.QueryProj.Gen.facts, Cert.QueryProjIdeal.Gen.facts, Cert.QueryProjRefIdeal.Gen.facts,
    Cert.PeerProj.Gen.facts, Cert.PeerProjIdeal.Gen.facts, Cert.PeerProjRefIdeal.Gen.facts,
    Cert.SbOutProj.Gen.facts, Cert.SbOutProjIdeal.Gen.facts, Cert.SbOutProjRefIdeal.Gen.facts,
    Cert.Norm.Gen.facts, Cert.NormIdeal.Gen.facts, Cert.NormRefIdeal.Gen.facts,
    Cert.NormPair.Gen.facts, Cert.NormPairIdeal.Gen.facts, Cert.NormPairRefIdeal.Gen.facts,
    Cert.WeightCast.Gen.facts, Cert.WeightCastIdeal.Gen.facts, Cert.WeightCastRefIdeal.Gen.facts,
    Cert.Stick.Gen.facts, Cert.StickIdeal.Gen.facts, preFacts, ?_⟩
  exact ⟨fun m ρ _ => Cert.Kernel.Gen.frame m ρ, fun m ρ _ => Cert.KernelIdeal.Gen.frame m ρ,
    fun m ρ _ => Cert.KernelIdeal.Gen.frame m ρ, quiet_reference, fun m ρ _ => quiet_reference m ρ trivial,
    fun m ρ _ => Cert.InProj.Gen.frame m ρ, fun m ρ _ => Cert.InProjIdeal.Gen.frame m ρ,
    fun m ρ _ => quiet_of (by decide) (Cert.InProjRefIdeal.Value.run m ρ) fun _ _ h => h.2.2.2.2.2.2.2.2.2,
    fun m ρ _ => Cert.OutProj.Gen.frame m ρ, fun m ρ _ => Cert.OutProjIdeal.Gen.frame m ρ,
    fun m ρ _ => quiet_of (by decide) (Cert.OutProjRefIdeal.Value.run m ρ) fun _ _ h => h.2.2.2,
    fun m ρ _ => Cert.KvProj.Gen.frame m ρ, fun m ρ _ => Cert.KvProjIdeal.Gen.frame m ρ,
    fun m ρ _ => quiet_of (by decide) (Cert.KvProjRefIdeal.Value.run m ρ) fun _ _ h => h.2,
    fun m ρ _ => Cert.QueryProj.Gen.frame m ρ, fun m ρ _ => Cert.QueryProjIdeal.Gen.frame m ρ,
    fun m ρ _ => quiet_of (by decide) (Cert.QueryProjRefIdeal.Value.run m ρ) fun _ _ h => h.2,
    fun m ρ _ => Cert.PeerProj.Gen.frame m ρ, fun m ρ _ => Cert.PeerProjIdeal.Gen.frame m ρ,
    fun m ρ _ => quiet_of (by decide) (Cert.PeerProjRefIdeal.Value.run m ρ) fun _ _ h => h.2,
    fun m ρ _ => Cert.SbOutProj.Gen.frame m ρ, fun m ρ _ => Cert.SbOutProjIdeal.Gen.frame m ρ,
    fun m ρ _ => quiet_of (by decide) (Cert.SbOutProjRefIdeal.Value.run m ρ) fun _ _ h => h.2,
    fun m ρ _ => Cert.Norm.Gen.frame m ρ, fun m ρ _ => Cert.NormIdeal.Gen.frame m ρ,
    fun m ρ _ => quiet_of (by decide) (Cert.NormRefIdeal.Value.run m ρ) fun _ _ h => h.2,
    fun m ρ _ => Cert.NormPair.Gen.frame m ρ, fun m ρ _ => Cert.NormPairIdeal.Gen.frame m ρ,
    fun m ρ _ => quiet_of (by decide) (Cert.NormPairRefIdeal.Value.run m ρ) fun _ _ h => h.2.2,
    fun m ρ _ => Cert.WeightCast.Gen.frame m ρ, fun m ρ _ => Cert.WeightCastIdeal.Gen.frame m ρ,
    fun m ρ _ => quiet_of (by decide) (Cert.WeightCastRefIdeal.Value.run m ρ) fun _ _ h => h.2,
    fun m ρ _ => Cert.Stick.Keep.frame m ρ, fun m ρ _ => Cert.StickIdeal.Keep.frame m ρ,
    trivial, same, trivial, same_InProj, trivial, same_OutProj, trivial, same_KvProj, trivial, same_QueryProj,
    trivial, same_PeerProj, trivial, same_SbOutProj, trivial, same_Norm, trivial, same_NormPair, trivial, same_WeightCast,
    trivial⟩

end Cert.Proof

end
